-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S4096 : Shape := ⟨1, ![4096]⟩
abbrev S2x200x128 : Shape := ⟨3, ![2, 200, 128]⟩
abbrev S128 : Shape := ⟨1, ![128]⟩
abbrev S_ : Shape := ⟨0, ![]⟩
abbrev S1x200x128 : Shape := ⟨3, ![1, 200, 128]⟩
abbrev S200x128 : Shape := ⟨2, ![200, 128]⟩
abbrev S16 : Shape := ⟨1, ![16]⟩
abbrev S1x1x16 : Shape := ⟨3, ![1, 1, 16]⟩
abbrev S32x128 : Shape := ⟨2, ![32, 128]⟩
abbrev S1x128 : Shape := ⟨2, ![1, 128]⟩

abbrev nBuf : Table → Nat
  | .hbm => 5
  | .local .tc .vmem => 2
  | .local .scVector .vmem => 2
  | _ => 0

abbrev bufTy : (tb : Table) → Fin (nBuf tb) → BufTy
  | .hbm, ⟨0, _⟩ => ⟨S320000x128, .f32⟩
  | .hbm, ⟨1, _⟩ => ⟨S4096, .f32⟩
  | .hbm, ⟨2, _⟩ => ⟨S32x128, .f32⟩
  | .hbm, ⟨3, _⟩ => ⟨S1x128, .f32⟩
  | .hbm, ⟨4, _⟩ => ⟨S128, .f32⟩
  | .local .tc .vmem, ⟨0, _⟩ => ⟨S32x128, .f32⟩
  | .local .tc .vmem, ⟨1, _⟩ => ⟨S1x128, .f32⟩
  | .local .scVector .vmem, ⟨0, _⟩ => ⟨S2x200x128, .f32⟩
  | .local .scVector .vmem, ⟨1, _⟩ => ⟨S128, .f32⟩
  | _, _ => ⟨S320000x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v3 : BitVec 32 := Scalar.addi v2 c0_i32
  let c0_i32_3 : BitVec 32 := 0#32
  ![v3.toNat, 0]
@[reducible] def k0_t1_loop : Scf.Loop 32 :=
  let c0_i32_20 : BitVec 32 := 0#32
  let c25_i32 : BitVec 32 := 25#32
  let v25 : BitVec 32 := Scalar.addi c0_i32_20 c25_i32
  let c1_i32_21 : BitVec 32 := 1#32
  ⟨c0_i32_20, v25, c1_i32_21⟩
def k0_off2 (i : grid0.Coords) (k0_t1 : Fin k0_t1_loop.trips) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c1_i32_21 : BitVec 32 := 1#32
  let arg8 : BitVec 32 := Scf.iv c0_i32_20 c1_i32_21 k0_t1
  let c2_i32_23 : BitVec 32 := 2#32
  let v52 : BitVec 32 := Scalar.muli arg8 c2_i32_23
  let v53 : BitVec 32 := Scalar.addi v52 c0_i32_24
  let c200_i32_25 : BitVec 32 := 200#32
  let v54 : BitVec 32 := Scalar.muli v53 c200_i32_25
  let v55 : BitVec 32 := Scalar.addi v2 v54
  let c0_i32_29 : BitVec 32 := 0#32
  ![v55.toNat, 0]
@[reducible] def k0_t2_loop : Scf.Loop 32 :=
  let c0_i32_33 : BitVec 32 := 0#32
  let c200_i32_34 : BitVec 32 := 200#32
  let v62 : BitVec 32 := Scalar.addi c0_i32_33 c200_i32_34
  let c1_i32_35 : BitVec 32 := 1#32
  ⟨c0_i32_33, v62, c1_i32_35⟩
def k0_off3 (k0_t2 : Fin k0_t2_loop.trips) : Fin 3 → Nat :=
  let c0_i32_56 : BitVec 32 := 0#32
  let v84 : Index := Scalar.indexCast c0_i32_56
  let c0_i32_33 : BitVec 32 := 0#32
  let c1_i32_35 : BitVec 32 := 1#32
  let arg17 : BitVec 32 := Scf.iv c0_i32_33 c1_i32_35 k0_t2
  let v85 : Index := Scalar.indexCast arg17
  let c0_57 : Index := 0#32
  ![0, v85.toNat, 0]
def k0_off4 (k0_t2 : Fin k0_t2_loop.trips) : Fin 3 → Nat :=
  let c0_i32_58 : BitVec 32 := 0#32
  let v89 : Index := Scalar.indexCast c0_i32_58
  let c0_i32_33 : BitVec 32 := 0#32
  let c1_i32_35 : BitVec 32 := 1#32
  let arg17 : BitVec 32 := Scf.iv c0_i32_33 c1_i32_35 k0_t2
  let v90 : Index := Scalar.indexCast arg17
  let c16_59 : Index := 16#32
  ![0, v90.toNat, 16]
def k0_off5 (k0_t2 : Fin k0_t2_loop.trips) : Fin 3 → Nat :=
  let c0_i32_60 : BitVec 32 := 0#32
  let v94 : Index := Scalar.indexCast c0_i32_60
  let c0_i32_33 : BitVec 32 := 0#32
  let c1_i32_35 : BitVec 32 := 1#32
  let arg17 : BitVec 32 := Scf.iv c0_i32_33 c1_i32_35 k0_t2
  let v95 : Index := Scalar.indexCast arg17
  let c32_61 : Index := 32#32
  ![0, v95.toNat, 32]
def k0_off6 (k0_t2 : Fin k0_t2_loop.trips) : Fin 3 → Nat :=
  let c0_i32_62 : BitVec 32 := 0#32
  let v99 : Index := Scalar.indexCast c0_i32_62
  let c0_i32_33 : BitVec 32 := 0#32
  let c1_i32_35 : BitVec 32 := 1#32
  let arg17 : BitVec 32 := Scf.iv c0_i32_33 c1_i32_35 k0_t2
  let v100 : Index := Scalar.indexCast arg17
  let c48_63 : Index := 48#32
  ![0, v100.toNat, 48]
def k0_off7 (k0_t2 : Fin k0_t2_loop.trips) : Fin 3 → Nat :=
  let c0_i32_64 : BitVec 32 := 0#32
  let v104 : Index := Scalar.indexCast c0_i32_64
  let c0_i32_33 : BitVec 32 := 0#32
  let c1_i32_35 : BitVec 32 := 1#32
  let arg17 : BitVec 32 := Scf.iv c0_i32_33 c1_i32_35 k0_t2
  let v105 : Index := Scalar.indexCast arg17
  let c64_65 : Index := 64#32
  ![0, v105.toNat, 64]
def k0_off8 (k0_t2 : Fin k0_t2_loop.trips) : Fin 3 → Nat :=
  let c0_i32_66 : BitVec 32 := 0#32
  let v109 : Index := Scalar.indexCast c0_i32_66
  let c0_i32_33 : BitVec 32 := 0#32
  let c1_i32_35 : BitVec 32 := 1#32
  let arg17 : BitVec 32 := Scf.iv c0_i32_33 c1_i32_35 k0_t2
  let v110 : Index := Scalar.indexCast arg17
  let c80_67 : Index := 80#32
  ![0, v110.toNat, 80]
def k0_off9 (k0_t2 : Fin k0_t2_loop.trips) : Fin 3 → Nat :=
  let c0_i32_68 : BitVec 32 := 0#32
  let v114 : Index := Scalar.indexCast c0_i32_68
  let c0_i32_33 : BitVec 32 := 0#32
  let c1_i32_35 : BitVec 32 := 1#32
  let arg17 : BitVec 32 := Scf.iv c0_i32_33 c1_i32_35 k0_t2
  let v115 : Index := Scalar.indexCast arg17
  let c96_69 : Index := 96#32
  ![0, v115.toNat, 96]
def k0_off10 (k0_t2 : Fin k0_t2_loop.trips) : Fin 3 → Nat :=
  let c0_i32_70 : BitVec 32 := 0#32
  let v119 : Index := Scalar.indexCast c0_i32_70
  let c0_i32_33 : BitVec 32 := 0#32
  let c1_i32_35 : BitVec 32 := 1#32
  let arg17 : BitVec 32 := Scf.iv c0_i32_33 c1_i32_35 k0_t2
  let v120 : Index := Scalar.indexCast arg17
  let c112_71 : Index := 112#32
  ![0, v120.toNat, 112]
def k0_cond1 (k0_t1 : Fin k0_t1_loop.trips) : BitVec 1 :=
  let c0_i32_20 : BitVec 32 := 0#32
  let c1_i32_21 : BitVec 32 := 1#32
  let arg8 : BitVec 32 := Scf.iv c0_i32_20 c1_i32_21 k0_t1
  let c2_i32_23 : BitVec 32 := 2#32
  let v52 : BitVec 32 := Scalar.muli arg8 c2_i32_23
  let c0_i32_24 : BitVec 32 := 0#32
  let v53 : BitVec 32 := Scalar.addi v52 c0_i32_24
  let c2_i32_37 : BitVec 32 := 2#32
  let v64 : BitVec 32 := Scalar.addi v53 c2_i32_37
  let c50_i32 : BitVec 32 := 50#32
  let v65 : BitVec 1 := Scalar.cmpi .slt v64 c50_i32
  let v66 : BitVec 32 := Scalar.extui v65
  let c0_i32_38 : BitVec 32 := 0#32
  let v67 : BitVec 1 := Scalar.cmpi .ne v66 c0_i32_38
  v67

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c1_i32_21 : BitVec 32 := 1#32
  let arg8 : BitVec 32 := Scf.iv c0_i32_20 c1_i32_21 k0_t1
  let c2_i32_23 : BitVec 32 := 2#32
  let v52 : BitVec 32 := Scalar.muli arg8 c2_i32_23
  let c0_i32_24 : BitVec 32 := 0#32
  let v53 : BitVec 32 := Scalar.addi v52 c0_i32_24
  let c2_i32_56 : BitVec 32 := 2#32
  let v84 : BitVec 32 := Scalar.addi v53 c2_i32_56
  let c200_i32_57 : BitVec 32 := 200#32
  let v85 : BitVec 32 := Scalar.muli v84 c200_i32_57
  let v86 : BitVec 32 := Scalar.addi v2 v85
  let c0_i32_61 : BitVec 32 := 0#32
  ![v86.toNat, 0]
@[reducible] def k0_t3_loop : Scf.Loop 32 :=
  let c0_i32_49 : BitVec 32 := 0#32
  let c200_i32_50 : BitVec 32 := 200#32
  let v78 : BitVec 32 := Scalar.addi c0_i32_49 c200_i32_50
  let c1_i32_51 : BitVec 32 := 1#32
  ⟨c0_i32_49, v78, c1_i32_51⟩
def k0_off12 (k0_t3 : Fin k0_t3_loop.trips) : Fin 3 → Nat :=
  let c1_i32_56 : BitVec 32 := 1#32
  let v84 : Index := Scalar.indexCast c1_i32_56
  let c0_i32_49 : BitVec 32 := 0#32
  let c1_i32_51 : BitVec 32 := 1#32
  let arg17 : BitVec 32 := Scf.iv c0_i32_49 c1_i32_51 k0_t3
  let v85 : Index := Scalar.indexCast arg17
  let c0_57 : Index := 0#32
  ![1, v85.toNat, 0]
def k0_off13 (k0_t3 : Fin k0_t3_loop.trips) : Fin 3 → Nat :=
  let c1_i32_58 : BitVec 32 := 1#32
  let v89 : Index := Scalar.indexCast c1_i32_58
  let c0_i32_49 : BitVec 32 := 0#32
  let c1_i32_51 : BitVec 32 := 1#32
  let arg17 : BitVec 32 := Scf.iv c0_i32_49 c1_i32_51 k0_t3
  let v90 : Index := Scalar.indexCast arg17
  let c16_59 : Index := 16#32
  ![1, v90.toNat, 16]
def k0_off14 (k0_t3 : Fin k0_t3_loop.trips) : Fin 3 → Nat :=
  let c1_i32_60 : BitVec 32 := 1#32
  let v94 : Index := Scalar.indexCast c1_i32_60
  let c0_i32_49 : BitVec 32 := 0#32
  let c1_i32_51 : BitVec 32 := 1#32
  let arg17 : BitVec 32 := Scf.iv c0_i32_49 c1_i32_51 k0_t3
  let v95 : Index := Scalar.indexCast arg17
  let c32_61 : Index := 32#32
  ![1, v95.toNat, 32]
def k0_off15 (k0_t3 : Fin k0_t3_loop.trips) : Fin 3 → Nat :=
  let c1_i32_62 : BitVec 32 := 1#32
  let v99 : Index := Scalar.indexCast c1_i32_62
  let c0_i32_49 : BitVec 32 := 0#32
  let c1_i32_51 : BitVec 32 := 1#32
  let arg17 : BitVec 32 := Scf.iv c0_i32_49 c1_i32_51 k0_t3
  let v100 : Index := Scalar.indexCast arg17
  let c48_63 : Index := 48#32
  ![1, v100.toNat, 48]
def k0_off16 (k0_t3 : Fin k0_t3_loop.trips) : Fin 3 → Nat :=
  let c1_i32_64 : BitVec 32 := 1#32
  let v104 : Index := Scalar.indexCast c1_i32_64
  let c0_i32_49 : BitVec 32 := 0#32
  let c1_i32_51 : BitVec 32 := 1#32
  let arg17 : BitVec 32 := Scf.iv c0_i32_49 c1_i32_51 k0_t3
  let v105 : Index := Scalar.indexCast arg17
  let c64_65 : Index := 64#32
  ![1, v105.toNat, 64]
def k0_off17 (k0_t3 : Fin k0_t3_loop.trips) : Fin 3 → Nat :=
  let c1_i32_66 : BitVec 32 := 1#32
  let v109 : Index := Scalar.indexCast c1_i32_66
  let c0_i32_49 : BitVec 32 := 0#32
  let c1_i32_51 : BitVec 32 := 1#32
  let arg17 : BitVec 32 := Scf.iv c0_i32_49 c1_i32_51 k0_t3
  let v110 : Index := Scalar.indexCast arg17
  let c80_67 : Index := 80#32
  ![1, v110.toNat, 80]
def k0_off18 (k0_t3 : Fin k0_t3_loop.trips) : Fin 3 → Nat :=
  let c1_i32_68 : BitVec 32 := 1#32
  let v114 : Index := Scalar.indexCast c1_i32_68
  let c0_i32_49 : BitVec 32 := 0#32
  let c1_i32_51 : BitVec 32 := 1#32
  let arg17 : BitVec 32 := Scf.iv c0_i32_49 c1_i32_51 k0_t3
  let v115 : Index := Scalar.indexCast arg17
  let c96_69 : Index := 96#32
  ![1, v115.toNat, 96]
def k0_off19 (k0_t3 : Fin k0_t3_loop.trips) : Fin 3 → Nat :=
  let c1_i32_70 : BitVec 32 := 1#32
  let v119 : Index := Scalar.indexCast c1_i32_70
  let c0_i32_49 : BitVec 32 := 0#32
  let c1_i32_51 : BitVec 32 := 1#32
  let arg17 : BitVec 32 := Scf.iv c0_i32_49 c1_i32_51 k0_t3
  let v120 : Index := Scalar.indexCast arg17
  let c112_71 : Index := 112#32
  ![1, v120.toNat, 112]
def k0_cond2 (k0_t1 : Fin k0_t1_loop.trips) : BitVec 1 :=
  let c0_i32_20 : BitVec 32 := 0#32
  let c1_i32_21 : BitVec 32 := 1#32
  let arg8 : BitVec 32 := Scf.iv c0_i32_20 c1_i32_21 k0_t1
  let c2_i32_39 : BitVec 32 := 2#32
  let v68 : BitVec 32 := Scalar.muli arg8 c2_i32_39
  let c1_i32_40 : BitVec 32 := 1#32
  let v69 : BitVec 32 := Scalar.addi v68 c1_i32_40
  let c2_i32_53 : BitVec 32 := 2#32
  let v80 : BitVec 32 := Scalar.addi v69 c2_i32_53
  let c50_i32_54 : BitVec 32 := 50#32
  let v81 : BitVec 1 := Scalar.cmpi .slt v80 c50_i32_54
  let v82 : BitVec 32 := Scalar.extui v81
  let c0_i32_55 : BitVec 32 := 0#32
  let v83 : BitVec 1 := Scalar.cmpi .ne v82 c0_i32_55
  v83

def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_20 : BitVec 32 := 0#32
  let c1_i32_21 : BitVec 32 := 1#32
  let arg8 : BitVec 32 := Scf.iv c0_i32_20 c1_i32_21 k0_t1
  let c2_i32_39 : BitVec 32 := 2#32
  let v68 : BitVec 32 := Scalar.muli arg8 c2_i32_39
  let c1_i32_40 : BitVec 32 := 1#32
  let v69 : BitVec 32 := Scalar.addi v68 c1_i32_40
  let c2_i32_56 : BitVec 32 := 2#32
  let v84 : BitVec 32 := Scalar.addi v69 c2_i32_56
  let c200_i32_57 : BitVec 32 := 200#32
  let v85 : BitVec 32 := Scalar.muli v84 c200_i32_57
  let v86 : BitVec 32 := Scalar.addi v2 v85
  let c0_i32_61 : BitVec 32 := 0#32
  ![v86.toNat, 0]
def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v51 : BitVec 32 := Scalar.muli v1 c128_i32
  ![v51.toNat]
abbrev grid1 : Pipeline.Grid := .none

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S_ : Shape := ⟨0, ![]⟩
abbrev S128 : Shape := ⟨1, ![128]⟩

abbrev nBuf : Space → Nat
  | .hbm => 3
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S_, .f32⟩
  | .hbm, ⟨2, _⟩ => ⟨S128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Values.lean ====
/-
  What the kernel computes, as plain functions of the argument's contents: the running column sum of the rows a tile has
  read, the sixteen-lane vectors that carry it, and the array of the thirty-two tiles' sums.
-/
module

public import proofs.«01_k».proof.Defs
public import proofs.«01_k».proof.Proof.Gen.KernelIdeal
public import proofs.«01_k».proof.Proof.Gen.KernelIdeal.Skeleton
public import Idealize.ShloMosaic.Lib.Pipeline.Value

@[expose] public section

noncomputable section

namespace Cert.Proof

open Cert.KernelIdeal Cert.KernelIdeal.Gen
open Idealize.ShloMosaic

variable {F : FTy → Type} [FloatOps F]

/-- The zero every accumulator starts from. -/
def zeroF : F .f32 := Scalar.ofBits .f32 0x00000000#32

/-- The element of `x` at row `r` and column `k`, given as numbers (zero outside the array). -/
def elt (x : S320000x128.Idx → F .f32) (r k : ℕ) : F .f32 :=
  if h : r < 320000 ∧ k < 128 then x (fun a => match a with | 0 => ⟨r, h.1⟩ | 1 => ⟨k, h.2⟩) else zeroF

/-- An element read at an index is the element at the index's two coordinates. -/
theorem elt_idx (x : S320000x128.Idx → F .f32) (j : S320000x128.Idx) {r k : ℕ} (hr : (j 0).val = r) (hk : (j 1).val = k) :
    x j = elt x r k := by
  subst hr hk
  have h : (j 0).val < 320000 ∧ (j 1).val < 128 := ⟨(j 0).isLt, (j 1).isLt⟩
  unfold elt; rw [dif_pos h]
  congr 1; funext a
  match a with
  | 0 => rfl
  | 1 => rfl

/-- The sum of column `k` over the `n` rows from row `base` on, in the order the kernel adds them. -/
def colAcc (x : S320000x128.Idx → F .f32) (base : ℕ) : ℕ → ℕ → F .f32
  | 0, _ => zeroF
  | n + 1, k => FloatOps.addf (colAcc x base n k) (elt x (base + n) k)

/-- The `j`-th accumulator after `n` rows: sixteen lanes, columns `16 j` to `16 j + 15`. -/
def accV (x : S320000x128.Idx → F .f32) (base n j : ℕ) : FVec F S16 .f32 := fun i => colAcc x base n (16 * j + (i 0).val)

/-- The eight accumulators after `n` rows. -/
abbrev accs (x : S320000x128.Idx → F .f32) (base n : ℕ) :
    FVec F S16 .f32 × FVec F S16 .f32 × FVec F S16 .f32 × FVec F S16 .f32 × FVec F S16 .f32 × FVec F S16 .f32 × FVec F S16 .f32 × FVec F S16 .f32 :=
  (accV x base n 0, accV x base n 1, accV x base n 2, accV x base n 3, accV x base n 4, accV x base n 5, accV x base n 6, accV x base n 7)

/-- The tiles' sums: the 128 numbers from `128 w` on are the column sums of the 10000 rows from `10000 w` on. -/
def partials (x : S320000x128.Idx → F .f32) : S4096.Idx → F .f32 :=
  fun j => colAcc x (10000 * ((j 0).val / 128)) 10000 ((j 0).val % 128)

/-- The sixteen numbers of row `r` of the staging buffer's slot `b` from column `16 j` on. -/
def rowV (f : S2x200x128.Idx → F .f32) (off : Fin 3 → ℕ) (h : ∀ a, off a + S1x1x16.size a ≤ S2x200x128.size a) : S1x1x16.Idx → F .f32 :=
  fun i => f (fun a => ⟨off a + (i a).val, by have := h a; have := (i a).isLt; omega⟩)

/-- Slot `b` of the staging buffer holds the 200 rows of `x` from row `r₀` on. -/
def Holds (x : S320000x128.Idx → F .f32) (f : S2x200x128.Idx → F .f32) (b r₀ : ℕ) : Prop :=
  ∀ j : S2x200x128.Idx, (j 0).val = b → f j = elt x (r₀ + (j 1).val) (j 2).val

/-- One accumulator's step: the row's sixteen numbers added lane by lane. -/
theorem acc_step (x : S320000x128.Idx → F .f32) (f : S2x200x128.Idx → F .f32) (base n b j t : ℕ) (hf : Holds x f b (base + n))
    (off : Fin 3 → ℕ) (h : ∀ a, off a + S1x1x16.size a ≤ S2x200x128.size a) (e : off = ![b, t, 16 * j]) :
    addf (accV x base (n + t) j) (shapeCast S16 (rowV f off h) shapeCasts_S1x1x16_S16) = accV x base (n + t + 1) j := by
  subst e
  funext i
  show FloatOps.addf (colAcc x base (n + t) (16 * j + (i 0).val)) _ = FloatOps.addf (colAcc x base (n + t) (16 * j + (i 0).val)) _
  congr 1
  let k : S1x1x16.Idx := fun a => match a with | 0 => ⟨0, by decide⟩ | 1 => ⟨0, by decide⟩ | 2 => ⟨(i 0).val, (i 0).isLt⟩
  rw [shapeCast_apply (rowV f _ h) shapeCasts_S1x1x16_S16 i k
    (by rw [Shape.rowMajor_val_three, Shape.rowMajor_val_one]; show (0 * 1 + 0) * 16 + (i 0).val = (i 0).val; omega)]
  unfold rowV
  rw [hf _ (by show b + 0 = b; rfl)]
  show elt x (base + n + (t + 0)) (16 * j + (i 0).val) = _
  rw [Nat.add_zero, Nat.add_assoc]

/-- A cast of sixteen lanes to sixteen lanes changes nothing. -/
theorem cast16 (v : FVec F S16 .f32) : shapeCast S16 v shapeCasts_S16_S16 = v :=
  funext fun i => shapeCast_apply v _ i i rfl

/-- The accumulators before any row are the eight zero vectors. -/
theorem accs_zero (x : S320000x128.Idx → F .f32) (base : ℕ) :
    accs x base 0 = (k0_pay17 (F := F), k0_pay18 (F := F), k0_pay19 (F := F), k0_pay20 (F := F), k0_pay21 (F := F), k0_pay22 (F := F),
      k0_pay23 (F := F), k0_pay24 (F := F)) := rfl

/-- One row added to the eight accumulators, from slot 0 or slot 1. -/
theorem accs_step (x : S320000x128.Idx → F .f32) (f : S2x200x128.Idx → F .f32) (base n b t : ℕ) (hf : Holds x f b (base + n))
    (off : Fin 8 → Fin 3 → ℕ) (h : ∀ j a, off j a + S1x1x16.size a ≤ S2x200x128.size a) (e : ∀ j : Fin 8, off j = ![b, t, 16 * j.val]) :
    accs x base (n + t + 1)
      = (addf (accs x base (n + t)).1 (shapeCast S16 (rowV f (off 0) (h 0)) shapeCasts_S1x1x16_S16),
         addf (accs x base (n + t)).2.1 (shapeCast S16 (rowV f (off 1) (h 1)) shapeCasts_S1x1x16_S16),
         addf (accs x base (n + t)).2.2.1 (shapeCast S16 (rowV f (off 2) (h 2)) shapeCasts_S1x1x16_S16),
         addf (accs x base (n + t)).2.2.2.1 (shapeCast S16 (rowV f (off 3) (h 3)) shapeCasts_S1x1x16_S16),
         addf (accs x base (n + t)).2.2.2.2.1 (shapeCast S16 (rowV f (off 4) (h 4)) shapeCasts_S1x1x16_S16),
         addf (accs x base (n + t)).2.2.2.2.2.1 (shapeCast S16 (rowV f (off 5) (h 5)) shapeCasts_S1x1x16_S16),
         addf (accs x base (n + t)).2.2.2.2.2.2.1 (shapeCast S16 (rowV f (off 6) (h 6)) shapeCasts_S1x1x16_S16),
         addf (accs x base (n + t)).2.2.2.2.2.2.2 (shapeCast S16 (rowV f (off 7) (h 7)) shapeCasts_S1x1x16_S16)) := by
  simp only [accs]
  refine Prod.ext (acc_step x f base n b 0 t hf _ _ (e 0)).symm (Prod.ext (acc_step x f base n b 1 t hf _ _ (e 1)).symm
    (Prod.ext (acc_step x f base n b 2 t hf _ _ (e 2)).symm (Prod.ext (acc_step x f base n b 3 t hf _ _ (e 3)).symm
    (Prod.ext (acc_step x f base n b 4 t hf _ _ (e 4)).symm (Prod.ext (acc_step x f base n b 5 t hf _ _ (e 5)).symm
    (Prod.ext (acc_step x f base n b 6 t hf _ _ (e 6)).symm (acc_step x f base n b 7 t hf _ _ (e 7)).symm))))))

end Cert.Proof

end
-- ==== Proof.Base.lean ====
/-
  The set-up of the run: the program as the launch theorem sees it, the resource algebra (the handshakes' rounds, the
  TensorCore pipeline's rounds, the transfers' counters), the buffers, the shares each tile gets, and the sets of elements
  the tiles and the staging slots are made of.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArrays
public import Idealize.ShloMosaic.Lib.ShareLeaves
public import Idealize.ShloMosaic.Lib.Writes
public import Idealize.ShloMosaic.Lib.Tactic
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}

/-! ## The program as the launch theorem sees it -/

/-- The labels of the TensorCore call's pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The body table under the SparseCore call's dispatch. -/
abbrev D [FloatOps F] : Defs nD τ sig (Elt F) (ΛP (F := F)) := Pipeline.defs pcfgs defs₀
/-- No loop measure is needed. -/
abbrev 𝒱₀ : Variants := Variants.none
/-- The same, lifted past the SparseCore call. -/
abbrev 𝒱 : Variants := 𝒱₀.lift
/-- Its one value. -/
abbrev v₀ : 𝒱.V := Sum.inl none

/-- The call runs on 16 tiles of each SparseCore. -/
theorem nSub_zero : (K (F := F)).nSub 0 = 16 := rfl
/-- The call runs on two SparseCores. -/
theorem nCore_zero : (K (F := F)).nCore 0 = 2 := rfl

/-- What the launch needs of the call's semaphores and sizes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' ghost state. -/
abbrev UH : Type := URounds (GSem nD τ sig) ℕ
/-- The TensorCore call's ghost state. -/
abbrev UP : Type := URounds (GSem nD τ sig) Unit
/-- All ghost state: the handshakes', the TensorCore call's, and the counters'. -/
abbrev UU : Type := UH × (UP × Counters)

local notation "𝕄" => MT nD τ sig (HIx 1) (Elt F) ℕ UU ℕ

/-- The handshakes' rounds library. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The handshakes' part lies in the user's ghost state. -/
instance EH_landsIn : (EH : Emb UH 𝕄).LandsIn (upEmb : UEmb _ 𝕄) := by unfold EH; infer_instance
/-- The TensorCore call's part lies in the user's ghost state. -/
instance EP_landsIn : (EP : Emb UP 𝕄).LandsIn (upEmb : UEmb _ 𝕄) := by unfold EP; infer_instance

/-- Owning both parts together is owning each. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-! ## The launch memory and the buffers -/

variable (m : (ℓ : Loc nD τ sig) → Buf (Elt F) ℓ) (ρ : Dev nD → PrngReg)

/-- Where the messages lie. -/
abbrev xLoc (d : Dev nD) : Loc nD τ sig := (SparseCore.T d).loc main_arg0
/-- Where the tiles' sums lie. -/
abbrev oLoc (d : Dev nD) : Loc nD τ sig := (SparseCore.T d).loc main_v0

/-- The whole of the messages, as a tile names it. -/
abbrev xV : Memref Cert.KernelIdeal.sig Kind.scVector Space.hbm Cert.KernelIdeal.S320000x128 EltTy.f32 := Memref.whole Cert.KernelIdeal.main_arg0_scv
/-- The whole of the tiles' sums, as a tile names it. -/
abbrev oV : Memref Cert.KernelIdeal.sig Kind.scVector Space.hbm Cert.KernelIdeal.S4096 EltTy.f32 := Memref.whole Cert.KernelIdeal.main_v0_scv
/-- The whole of a tile's two slots of 200 rows, as a tile names it. -/
abbrev bV : Memref Cert.KernelIdeal.sig Kind.scVector Space.vmem Cert.KernelIdeal.S2x200x128 EltTy.f32 := Memref.whole Cert.KernelIdeal.cc0_scratch0
/-- The whole of a tile's 128 column sums, as a tile names it. -/
abbrev aV : Memref Cert.KernelIdeal.sig Kind.scVector Space.vmem Cert.KernelIdeal.S128 EltTy.f32 := Memref.whole Cert.KernelIdeal.cc0_scratch1

/-- The SparseCore of a grid point. -/
abbrev cV (L : grid0.Coords) : Fin τ.nSC := (L 0).castLE hcore0
/-- The subcore of a grid point. -/
abbrev jV (L : grid0.Coords) : Fin τ.nSub := (L 1).castLE hsub0
/-- The grid has two SparseCores. -/
theorem bound_zero : grid0.bound 0 = 2 := rfl
/-- The grid has sixteen subcores. -/
theorem bound_one : grid0.bound 1 = 16 := rfl

/-- The tile's number: twice its subcore plus its SparseCore. -/
abbrev wid (L : grid0.Coords) : ℕ := 2 * (L 1).val + (L 0).val
/-- A tile's number is below 32. -/
theorem wid_lt (L : grid0.Coords) : wid L < 32 := by
  have h0 : (L 0).val < 2 := (L 0).isLt
  have h1 : (L 1).val < 16 := (L 1).isLt
  unfold wid; omega

/-- A subcore's view of the argument is the device's argument; of the tiles' sums, the device's. -/
abbrev xLocV (d : Dev nD) (L : grid0.Coords) : Loc nD τ sig := (xV).view.loc (V d (cV L) (jV L))
/-- Where a tile's two slots lie. -/
abbrev bLocV (d : Dev nD) (L : grid0.Coords) : Loc nD τ sig := (bV).view.loc (V d (cV L) (jV L))
/-- Where a tile's 128 column sums lie. -/
abbrev aLocV (d : Dev nD) (L : grid0.Coords) : Loc nD τ sig := (aV).view.loc (V d (cV L) (jV L))

/-! ## The shares of the argument: halved once for the SparseCores, four times for the subcores, once for the two cells -/

/-- A SparseCore's read share of the messages. -/
abbrev coreShare (c : Fin 2) : PosShare TreeShare := leaf 1 fullShare c
/-- A tile's read share of the messages. -/
abbrev tileShare (c : Fin 2) (s : Fin 16) : PosShare TreeShare := leaf 4 (coreShare c) s

/-! ## The elements a slot, a window and a tile's block are made of -/

/-- Slot `b` of the staging buffer. -/
def slotSet (b : ℕ) : Finset S2x200x128.Idx := Finset.univ.filter fun j => (j 0).val = b
/-- The tile's 128 numbers of the sums. -/
def outSet (w : ℕ) : Finset S4096.Idx := Finset.univ.filter fun j => (j 0).val / 128 = w

end Cert.Proof

end
-- ==== Proof.Row.lean ====
/-
  One pass over a staging slot's 200 rows: eight loads of sixteen lanes a row, each added to its accumulator. Proved once
  for a row and once for the loop, at either slot.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

variable (d : Dev nD) (L : grid0.Coords)

/-- A sixteen-lane load of a row of slot `b` stays inside the slot. -/
theorem load_sub {b t j : ℕ} {off : Fin 3 → ℕ} (h : ∀ a, off a + S1x1x16.size a ≤ S2x200x128.size a) (e : off = ![b, t, 16 * j]) :
    (bV).view.setOn (Rect.unit (s := S2x200x128) off S1x1x16.size h).toLoadRect.set ⊆ slotSet b := by
  subst e
  intro i hi
  obtain ⟨y, hy, rfl⟩ := Finset.mem_map.mp hi
  have hy := Rect.mem_set_unit.mp hy 0
  refine Finset.mem_filter.mpr ⟨Finset.mem_univ _, ?_⟩
  have h1 : b ≤ (y 0).val := hy.1
  have h2 : (y 0).val < b + 1 := hy.2
  show (y 0).val = b
  omega

/-- What such a load reads. -/
theorem load_val (f : S2x200x128.Idx → F .f32) (off : Fin 3 → ℕ) (h : ∀ a, off a + S1x1x16.size a ≤ S2x200x128.size a) :
    (bV).view.readAt (Elt F) (Rect.unit (s := S2x200x128) off S1x1x16.size h).toLoadRect f = rowV f off h :=
  funext fun i => congrArg f (funext fun a => Fin.ext (by show off a + 1 * (i a).val = off a + (i a).val; omega))

/-- A load of sixteen lanes of slot `b`, at the head of a program. -/
theorem wp_loadRow {α : Type} {b t j : ℕ} {off : Fin 3 → ℕ} (h : ∀ a, off a + S1x1x16.size a ≤ S2x200x128.size a) (e : off = ![b, t, 16 * j])
    {f : Buf (Elt F) (bLocV d L)} {hl : (bV).view.LoadsAt (Rect.unit (s := S2x200x128) off S1x1x16.size h).toLoadRect}
    {k : Vec F S1x1x16 .f32 → Prog (TpuEff nD τ sig (Elt F) Λ₀ (.scVector (cV L) (jV L))) α} {Q : α → sProp 𝕄} :
    (bLocV d L ↦[slotSet b]{fullShare} f)
      ⊢ iprop(((bLocV d L ↦[slotSet b]{fullShare} f) -∗ wp frame (wpE (defs₀ (F := F)) 𝒱₀ (V d (cV L) (jV L)) none) Set.univ (k (rowV f off h)) Q)
        -∗ wp frame (wpE (defs₀ (F := F)) 𝒱₀ (V d (cV L) (jV L)) none) Set.univ
            (Prog.lift (.load (bV) (Rect.unit (s := S2x200x128) off S1x1x16.size h).toLoadRect hl) >>= k) Q) := by
  rw [← load_val]
  exact wp_load 𝒱₀ (V d (cV L) (jV L)) none Set.univ (load_sub h e)

/-- One row of slot 0 or of slot 1: the eight loads and the eight additions. -/
theorem row_at {b t n base : ℕ} {x : Buf (Elt F) (xLocV d L)} {f : Buf (Elt F) (bLocV d L)} (hf : Holds x f b (base + n))
    (off : Fin 8 → Fin 3 → ℕ) (h : ∀ j a, off j a + S1x1x16.size a ≤ S2x200x128.size a) (e : ∀ j : Fin 8, off j = ![b, t, 16 * j.val])
    (p : Prog (TpuEff nD τ sig (Elt F) Λ₀ (.scVector (cV L) (jV L))) _)
    (hl : ∀ j, (bV).view.LoadsAt (Rect.unit (s := S2x200x128) (off j) S1x1x16.size (h j)).toLoadRect)
    (hp : p = do
      let w0 ← Prog.lift (.load (bV) (Rect.unit (s := S2x200x128) (off 0) S1x1x16.size (h 0)).toLoadRect (hl 0))
      let w1 ← Prog.lift (.load (bV) (Rect.unit (s := S2x200x128) (off 1) S1x1x16.size (h 1)).toLoadRect (hl 1))
      let w2 ← Prog.lift (.load (bV) (Rect.unit (s := S2x200x128) (off 2) S1x1x16.size (h 2)).toLoadRect (hl 2))
      let w3 ← Prog.lift (.load (bV) (Rect.unit (s := S2x200x128) (off 3) S1x1x16.size (h 3)).toLoadRect (hl 3))
      let w4 ← Prog.lift (.load (bV) (Rect.unit (s := S2x200x128) (off 4) S1x1x16.size (h 4)).toLoadRect (hl 4))
      let w5 ← Prog.lift (.load (bV) (Rect.unit (s := S2x200x128) (off 5) S1x1x16.size (h 5)).toLoadRect (hl 5))
      let w6 ← Prog.lift (.load (bV) (Rect.unit (s := S2x200x128) (off 6) S1x1x16.size (h 6)).toLoadRect (hl 6))
      let w7 ← Prog.lift (.load (bV) (Rect.unit (s := S2x200x128) (off 7) S1x1x16.size (h 7)).toLoadRect (hl 7))
      pure (addf (accs x base (n + t)).1 (shapeCast S16 w0 shapeCasts_S1x1x16_S16),
         addf (accs x base (n + t)).2.1 (shapeCast S16 w1 shapeCasts_S1x1x16_S16),
         addf (accs x base (n + t)).2.2.1 (shapeCast S16 w2 shapeCasts_S1x1x16_S16),
         addf (accs x base (n + t)).2.2.2.1 (shapeCast S16 w3 shapeCasts_S1x1x16_S16),
         addf (accs x base (n + t)).2.2.2.2.1 (shapeCast S16 w4 shapeCasts_S1x1x16_S16),
         addf (accs x base (n + t)).2.2.2.2.2.1 (shapeCast S16 w5 shapeCasts_S1x1x16_S16),
         addf (accs x base (n + t)).2.2.2.2.2.2.1 (shapeCast S16 w6 shapeCasts_S1x1x16_S16),
         addf (accs x base (n + t)).2.2.2.2.2.2.2 (shapeCast S16 w7 shapeCasts_S1x1x16_S16))) :
    (bLocV d L ↦[slotSet b]{fullShare} f)
      ⊢ wp frame (wpE (defs₀ (F := F)) 𝒱₀ (V d (cV L) (jV L)) none) Set.univ p
          fun acc => iprop(⌜acc = accs x base (n + (t + 1))⌝ ∗ (bLocV d L ↦[slotSet b]{fullShare} f : sProp 𝕄)) := by
  subst hp
  iintro H
  iapply (wp_loadRow d L (h 0) (e 0)) $$ H; iintro H
  iapply (wp_loadRow d L (h 1) (e 1)) $$ H; iintro H
  iapply (wp_loadRow d L (h 2) (e 2)) $$ H; iintro H
  iapply (wp_loadRow d L (h 3) (e 3)) $$ H; iintro H
  iapply (wp_loadRow d L (h 4) (e 4)) $$ H; iintro H
  iapply (wp_loadRow d L (h 5) (e 5)) $$ H; iintro H
  iapply (wp_loadRow d L (h 6) (e 6)) $$ H; iintro H
  iapply (wp_loadRow d L (h 7) (e 7)) $$ H; iintro H
  rw [wp_pure]; imodintro
  isplitr
  · ipureintro; exact (accs_step x f base n b t hf off h e).symm
  · iexact H

/-- The offsets of a row's eight loads, slot 0. -/
abbrev offs0 (t : Fin k0_t2_loop.trips) : Fin 8 → Fin 3 → ℕ :=
  ![k0_off3 t, k0_off4 t, k0_off5 t, k0_off6 t, k0_off7 t, k0_off8 t, k0_off9 t, k0_off10 t]
/-- The offsets of a row's eight loads, slot 1. -/
abbrev offs1 (t : Fin k0_t3_loop.trips) : Fin 8 → Fin 3 → ℕ :=
  ![k0_off12 t, k0_off13 t, k0_off14 t, k0_off15 t, k0_off16 t, k0_off17 t, k0_off18 t, k0_off19 t]

/-- The eight loads from slot 0 at row `t` are at lanes 16 apart. -/
theorem offs0_eq (t : Fin k0_t2_loop.trips) : ∀ j : Fin 8, offs0 t j = ![0, t.val, 16 * j.val] := by
  intro j
  match j with
  | 0 => exact k0_off3_eq t
  | 1 => exact k0_off4_eq t
  | 2 => exact k0_off5_eq t
  | 3 => exact k0_off6_eq t
  | 4 => exact k0_off7_eq t
  | 5 => exact k0_off8_eq t
  | 6 => exact k0_off9_eq t
  | 7 => exact k0_off10_eq t

/-- The eight loads from slot 1 at row `t` are at lanes 16 apart. -/
theorem offs1_eq (t : Fin k0_t3_loop.trips) : ∀ j : Fin 8, offs1 t j = ![1, t.val, 16 * j.val] := by
  intro j
  match j with
  | 0 => exact k0_off12_eq t
  | 1 => exact k0_off13_eq t
  | 2 => exact k0_off14_eq t
  | 3 => exact k0_off15_eq t
  | 4 => exact k0_off16_eq t
  | 5 => exact k0_off17_eq t
  | 6 => exact k0_off18_eq t
  | 7 => exact k0_off19_eq t

/-- The loads from slot 0 lie inside the buffer. -/
theorem offs0_inb (t : Fin k0_t2_loop.trips) : ∀ j a, offs0 t j a + S1x1x16.size a ≤ S2x200x128.size a := by
  intro j
  match j with
  | 0 => exact k0_off3_inb t
  | 1 => exact k0_off4_inb t
  | 2 => exact k0_off5_inb t
  | 3 => exact k0_off6_inb t
  | 4 => exact k0_off7_inb t
  | 5 => exact k0_off8_inb t
  | 6 => exact k0_off9_inb t
  | 7 => exact k0_off10_inb t

/-- The loads from slot 1 lie inside the buffer. -/
theorem offs1_inb (t : Fin k0_t3_loop.trips) : ∀ j a, offs1 t j a + S1x1x16.size a ≤ S2x200x128.size a := by
  intro j
  match j with
  | 0 => exact k0_off12_inb t
  | 1 => exact k0_off13_inb t
  | 2 => exact k0_off14_inb t
  | 3 => exact k0_off15_inb t
  | 4 => exact k0_off16_inb t
  | 5 => exact k0_off17_inb t
  | 6 => exact k0_off18_inb t
  | 7 => exact k0_off19_inb t

variable (hx : (xV).IsWhole) (ho : (oV).IsWhole) (hb : (bV).IsWhole) (ha : (aV).IsWhole) (s2 s3 s0 : DmaSems sig S_)

/-- A row of slot 0. -/
theorem row0 {n base : ℕ} {x : Buf (Elt F) (xLocV d L)} {f : Buf (Elt F) (bLocV d L)} (hf : Holds x f 0 (base + n))
    (v2 c0 c1 : BitVec 32) (t1 : Fin k0_t1_loop.trips) (a9 a10 a11 a12 a13 a14 a15 a16 : FVec F S16 .f32) (t : Fin k0_t2_loop.trips) :
    (bLocV d L ↦[slotSet 0]{fullShare} f)
      ⊢ wp frame (wpE (defs₀ (F := F)) 𝒱₀ (V d (cV L) (jV L)) none) Set.univ
          (k0_t2_body (F := F) L xV hx oV ho bV hb aV ha s2 s3 s0 v2 c0 c1 t1 a9 a10 a11 a12 a13 a14 a15 a16 t (accs x base (n + t.val)))
          fun acc => iprop(⌜acc = accs x base (n + (t.val + 1))⌝ ∗ (bLocV d L ↦[slotSet 0]{fullShare} f : sProp 𝕄)) :=
  row_at d L hf (offs0 t) (offs0_inb t) (offs0_eq t) _ (fun _ => View.loadsAt_vmem h_S1x1x16) rfl

/-- A row of slot 1. -/
theorem row1 {n base : ℕ} {x : Buf (Elt F) (xLocV d L)} {f : Buf (Elt F) (bLocV d L)} (hf : Holds x f 1 (base + n)) (t : Fin k0_t3_loop.trips) :
    (bLocV d L ↦[slotSet 1]{fullShare} f)
      ⊢ wp frame (wpE (defs₀ (F := F)) 𝒱₀ (V d (cV L) (jV L)) none) Set.univ
          (k0_t3_body (F := F) L xV hx oV ho bV hb aV ha s2 s3 s0 t (accs x base (n + t.val)))
          fun acc => iprop(⌜acc = accs x base (n + (t.val + 1))⌝ ∗ (bLocV d L ↦[slotSet 1]{fullShare} f : sProp 𝕄)) :=
  row_at d L hf (offs1 t) (offs1_inb t) (offs1_eq t) _ (fun _ => View.loadsAt_vmem h_S1x1x16) rfl

/-- All 200 rows of slot 0, before any continuation. -/
theorem rows0 {n base : ℕ} {x : Buf (Elt F) (xLocV d L)} {f : Buf (Elt F) (bLocV d L)} (hf : Holds x f 0 (base + n))
    (v2 c0 c1 : BitVec 32) (t1 : Fin k0_t1_loop.trips) (a9 a10 a11 a12 a13 a14 a15 a16 : FVec F S16 .f32)
    {β : Type} {k : _ → Prog (TpuEff nD τ sig (Elt F) Λ₀ (.scVector (cV L) (jV L))) β} {Q : β → sProp 𝕄} :
    (bLocV d L ↦[slotSet 0]{fullShare} f)
      ⊢ iprop(((bLocV d L ↦[slotSet 0]{fullShare} f)
            -∗ wp frame (wpE (defs₀ (F := F)) 𝒱₀ (V d (cV L) (jV L)) none) Set.univ (k (accs x base (n + 200))) Q)
        -∗ wp frame (wpE (defs₀ (F := F)) 𝒱₀ (V d (cV L) (jV L)) none) Set.univ
          (Scf.Loop.for k0_t2_loop k0_t2_ok (accs x base n)
            (k0_t2_body (F := F) L xV hx oV ho bV hb aV ha s2 s3 s0 v2 c0 c1 t1 a9 a10 a11 a12 a13 a14 a15 a16) >>= k) Q) := by
  iintro H Hk
  iapply (Scf.wp_for_bind frame (wpE (defs₀ (F := F)) 𝒱₀ (V d (cV L) (jV L)) none) Set.univ _ _ _ k0_t2_ok (accs x base n) _
    (fun t acc => iprop(⌜acc = accs x base (n + t)⌝ ∗ (bLocV d L ↦[slotSet 0]{fullShare} f : sProp 𝕄))) ?_) $$ [H]
  · intro t acc
    iintro ⟨%hacc, H⟩
    subst hacc
    iapply (row0 d L hx ho hb ha s2 s3 s0 hf v2 c0 c1 t1 a9 a10 a11 a12 a13 a14 a15 a16 t) $$ H
  · isplitr; · ipureintro; rfl
    iexact H
  iintro %acc ⟨%hacc, H⟩
  subst hacc
  iapply Hk; iexact H

/-- All 200 rows of slot 1, before any continuation. -/
theorem rows1 {n base : ℕ} {x : Buf (Elt F) (xLocV d L)} {f : Buf (Elt F) (bLocV d L)} (hf : Holds x f 1 (base + n))
    {β : Type} {k : _ → Prog (TpuEff nD τ sig (Elt F) Λ₀ (.scVector (cV L) (jV L))) β} {Q : β → sProp 𝕄} :
    (bLocV d L ↦[slotSet 1]{fullShare} f)
      ⊢ iprop(((bLocV d L ↦[slotSet 1]{fullShare} f)
            -∗ wp frame (wpE (defs₀ (F := F)) 𝒱₀ (V d (cV L) (jV L)) none) Set.univ (k (accs x base (n + 200))) Q)
        -∗ wp frame (wpE (defs₀ (F := F)) 𝒱₀ (V d (cV L) (jV L)) none) Set.univ
          (Scf.Loop.for k0_t3_loop k0_t3_ok (accs x base n)
            (k0_t3_body (F := F) L xV hx oV ho bV hb aV ha s2 s3 s0) >>= k) Q) := by
  iintro H Hk
  iapply (Scf.wp_for_bind frame (wpE (defs₀ (F := F)) 𝒱₀ (V d (cV L) (jV L)) none) Set.univ _ _ _ k0_t3_ok (accs x base n) _
    (fun t acc => iprop(⌜acc = accs x base (n + t)⌝ ∗ (bLocV d L ↦[slotSet 1]{fullShare} f : sProp 𝕄))) ?_) $$ [H]
  · intro t acc
    iintro ⟨%hacc, H⟩
    subst hacc
    iapply (row1 d L hx ho hb ha s2 s3 s0 hf t) $$ H
  · isplitr; · ipureintro; rfl
    iexact H
  iintro %acc ⟨%hacc, H⟩
  subst hacc
  iapply Hk; iexact H

end Cert.Proof

end
-- ==== Proof.Dma.lean ====
/-
  The two staging slots' copies: a slot is idle (its cell at zero, its elements free, its share of the argument whole) or
  busy with a copy of 200 rows in flight. One lemma issues a copy, one waits for it, at either slot.
-/
module

public import proofs.«01_k».proof.Proof.Row

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

variable (d : Dev nD) (L : grid0.Coords)

/-- The 200 rows of the argument from row `r` on. -/
def winSet (r : ℕ) : Finset S320000x128.Idx := Finset.univ.filter fun j => r ≤ (j 0).val ∧ (j 0).val < r + 200

/-- Slot `b` as a copy addresses it. -/
abbrev slotM (b : ℕ) (h : ∀ a, (![b, 0, 0] : Fin 3 → ℕ) a + S1x200x128.size a ≤ S2x200x128.size a) : Memref sig .scVector .vmem S200x128 .f32 :=
  ((bV).slice (Rect.unit (s := S2x200x128) ![b, 0, 0] S1x200x128.size h) (fun _ => rfl)).squeeze S200x128 squeezes_S1x200x128_S200x128
/-- 200 rows of the argument as a copy addresses them. -/
abbrev winM (off : Fin 2 → ℕ) (h : ∀ a, off a + S200x128.size a ≤ S320000x128.size a) : Memref sig .scVector .hbm S200x128 .f32 :=
  (xV).slice (Rect.unit (s := S320000x128) off S200x128.size h) (fun _ => rfl)

/-- The view of slot `b` covers slot `b`'s words. -/
theorem set_slotM (b : ℕ) (h) : (slotM b h).view.set = slotSet b := by
  show (((bV).view.slice (Rect.unit (s := S2x200x128) ![b, 0, 0] S1x200x128.size h)).reshape S200x128 squeezes_S1x200x128_S200x128.numel_eq).set = _
  rw [View.set_reshape]
  refine (View.set_slice_whole (cc0_scratch0 : Ref sig .scVector) _).trans ?_
  ext j
  refine Rect.mem_set_unit.trans ⟨fun hj => ?_, fun hj a => ?_⟩
  · have h0 := hj 0
    have h1 : b ≤ (j 0).val := h0.1
    have h2 : (j 0).val < b + 1 := h0.2
    exact Finset.mem_filter.mpr ⟨Finset.mem_univ _, by omega⟩
  · have hj := (Finset.mem_filter.mp hj).2
    match a with
    | 0 => exact ⟨le_of_eq hj.symm, by show (j 0).val < b + 1; omega⟩
    | 1 => exact ⟨Nat.zero_le _, by show (j 1).val < 0 + 200; have : (j 1).val < 200 := (j 1).isLt; omega⟩
    | 2 => exact ⟨Nat.zero_le _, by show (j 2).val < 0 + 128; have : (j 2).val < 128 := (j 2).isLt; omega⟩

/-- The view of 200 rows from row `r` covers those rows' words. -/
theorem set_winM (off : Fin 2 → ℕ) (h) (r : ℕ) (e : off = ![r, 0]) : (winM off h).view.set = winSet r := by
  subst e
  refine (View.set_slice_whole (main_arg0_scv : Ref sig .scVector) _).trans ?_
  ext j
  refine Rect.mem_set_unit.trans ⟨fun hj => ?_, fun hj a => ?_⟩
  · have h0 := hj 0
    have h1 : r ≤ (j 0).val := h0.1
    have h2 : (j 0).val < r + 200 := h0.2
    exact Finset.mem_filter.mpr ⟨Finset.mem_univ _, h1, h2⟩
  · have hj := (Finset.mem_filter.mp hj).2
    match a with
    | 0 => exact hj
    | 1 => exact ⟨Nat.zero_le _, by show (j 1).val < 0 + 128; have : (j 1).val < 128 := (j 1).isLt; omega⟩

/-- What a landed copy leaves in its slot: the 200 rows. -/
theorem holds_copy (b : ℕ) (hs) (off : Fin 2 → ℕ) (hw) (r : ℕ) (e : off = ![r, 0]) (x : S320000x128.Idx → F .f32) (fd : S2x200x128.Idx → F .f32) :
    Holds x ((slotM b hs).view.write (Elt F) fd ((winM off hw).view.read (Elt F) x) Finset.univ) b r := by
  subst e
  intro j hj
  let y : S200x128.Idx := fun a => match a with | 0 => ⟨(j 1).val, (j 1).isLt⟩ | 1 => ⟨(j 2).val, (j 2).isLt⟩
  let z : S1x200x128.Idx := fun a => match a with | 0 => ⟨0, by decide⟩ | 1 => ⟨(j 1).val, (j 1).isLt⟩ | 2 => ⟨(j 2).val, (j 2).isLt⟩
  have hyz : Shape.reshapeEquiv squeezes_S1x200x128_S200x128.numel_eq y = z :=
    Shape.reshapeEquiv_eq_of_rowMajor _ (by
      rw [Shape.rowMajor_val_three, Shape.rowMajor_val_two]
      show (0 * 200 + (j 1).val) * 128 + (j 2).val = (j 1).val * 128 + (j 2).val
      omega)
  have hemb : (slotM b hs).view.emb y = j := by
    show (Rect.unit (s := S2x200x128) ![b, 0, 0] S1x200x128.size hs).emb (Shape.reshapeEquiv squeezes_S1x200x128_S200x128.numel_eq y) = j
    rw [hyz]
    funext a
    match a with
    | 0 => exact Fin.ext (by show b + 1 * 0 = (j 0).val; omega)
    | 1 => exact Fin.ext (by show 0 + 1 * (j 1).val = (j 1).val; omega)
    | 2 => exact Fin.ext (by show 0 + 1 * (j 2).val = (j 2).val; omega)
  have key := View.write_emb_of_mem (v := (slotM b hs).view) (Val := Elt F) fd ((winM ![r, 0] hw).view.read (Elt F) x) (Finset.mem_univ y)
  rw [hemb] at key
  refine key.trans ?_
  show x ((Rect.unit (s := S320000x128) ![r, 0] S200x128.size hw).emb y) = _
  exact elt_idx x _ (by show r + 1 * (j 1).val = r + (j 1).val; omega) (by show 0 + 1 * (j 2).val = (j 2).val; omega)

/-- A slot with no copy in flight. -/
def idle (b : ℕ) (sm : DmaSem sig) (q : PosShare TreeShare) (x : Buf (Elt F) (xLocV d L)) : sProp 𝕄 :=
  iprop(semVal (V d (cV L) (jV L), .dma sm) 0 ∗ (∃ f : Buf (Elt F) (bLocV d L), bLocV d L ↦[slotSet b]{fullShare} f) ∗ xLocV d L ↦{q} x)

/-- What a slot's copy delivers: the slot holding the 200 rows from row `r` on, and the share of those rows back. -/
def landed (b : ℕ) (q : PosShare TreeShare) (x : Buf (Elt F) (xLocV d L)) (r : ℕ) : sProp 𝕄 :=
  iprop((∃ f : Buf (Elt F) (bLocV d L), ⌜Holds x f b r⌝ ∗ bLocV d L ↦[slotSet b]{fullShare} f) ∗ xLocV d L ↦[winSet r]{q} x)

/-- A slot's copy's credit. -/
def credN : ℕ := (slotM 0 inb_S2x200x128_S1x200x128_0_0_0).view.dmaCredit
/-- A copy into a slot gives its semaphore that many credits. -/
theorem cred_eq (b : ℕ) (h) : (slotM b h).view.dmaCredit = credN := rfl

/-- A slot with a copy of the 200 rows from row `r` on in flight. -/
def busy (b : ℕ) (sm : DmaSem sig) (q : PosShare TreeShare) (x : Buf (Elt F) (xLocV d L)) (r : ℕ) : sProp 𝕄 :=
  iprop(Transfers.Flight countersEmb (V d (cV L) (jV L)) (.dma sm) (default : HIx 1) credN (landed d L b q x r)
    ∗ xLocV d L ↦[Finset.univ \ winSet r]{q} x)

/-- The issue of a copy into an idle slot. -/
theorem wp_issue {b r : ℕ} {sm : DmaSem sig} {q : PosShare TreeShare} {x : Buf (Elt F) (xLocV d L)}
    (hs : ∀ a, (![b, 0, 0] : Fin 3 → ℕ) a + S1x200x128.size a ≤ S2x200x128.size a)
    {off : Fin 2 → ℕ} (hw : ∀ a, off a + S200x128.size a ≤ S320000x128.size a) (e : off = ![r, 0])
    {hsrc : (winM off hw).view.WordExact} {hdst : (slotM b hs).view.WordExact}
    {hsem : DmaTarget.Typed (nD := nD) (τ := τ) (sig := sig) (p := Proc.scVector (cV L) (jV L)) .hbm (SemLoc.dma sm) (DmaTarget.here (slotM b hs))}
    {β : Type} {k : PUnit → Prog (TpuEff nD τ sig (Elt F) Λ₀ (.scVector (cV L) (jV L))) β} {Q : β → sProp 𝕄} :
    idle d L b sm q x
      ⊢ iprop((busy d L b sm q x r -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.enqueueDma (winM off hw) (.here (slotM b hs)) (.dma sm) hsrc hdst hsem) >>= k) Q) := by
  unfold idle busy
  iintro ⟨Hsem, ⟨%f, Hb⟩, Hx⟩ Hk
  ihave Hx' := (pointsTo_split_subset (q := q) (f := x) (S := Finset.univ) (Finset.subset_univ (winSet r))).1 $$ Hx
  icases Hx' with ⟨Hx, Hxr⟩
  ihave Hx' := (Entails.of_eq (show (xLocV d L ↦[winSet r]{q} x : sProp 𝕄) = (winM off hw).view.loc (V d (cV L) (jV L)) ↦[(winM off hw).view.set]{q} x by
    rw [set_winM off hw r e])) $$ Hx
  iapply (Transfers.wp_dmaLocal countersEmb 𝒱₀ (V d (cV L) (jV L)) none (src := winM off hw) (dst := slotM b hs) (fs := x) (fd := f) (Sd := slotSet b)
    (default : HIx 1) credN (show (slotM b hs).view.amount (.dma sm) = credN from cred_eq b hs) (View.dmaCredit_pos _ (by decide)) (le_of_eq (set_slotM b hs))) $$ [Hsem Hb Hx']
  · isplitl [Hx']; · iexact Hx'
    isplitl [Hb]; · iexact Hb
    iexact Hsem
  iintro Hfl
  iapply Hk
  isplitl [Hfl]
  · iapply (Transfers.Flight_mono countersEmb (V d (cV L) (jV L)) ?_) $$ Hfl
    unfold landed
    iintro ⟨Hb, Hx⟩
    isplitl [Hb]
    · iexists _
      isplitr
      swap; · iexact Hb
      ipureintro
      exact holds_copy b hs off hw r e x f
    · iapply (Entails.of_eq (show ((winM off hw).view.loc (V d (cV L) (jV L)) ↦[(winM off hw).view.set]{q} x : sProp 𝕄) = xLocV d L ↦[winSet r]{q} x by
        rw [set_winM off hw r e])) $$ Hx
  · iexact Hxr

/-- The wait for a busy slot's copy: the slot with its rows, the cell at zero, the share whole again, the wait recorded. -/
theorem wp_landed {b b' r : ℕ} {sm : DmaSem sig} {q : PosShare TreeShare} {x : Buf (Elt F) (xLocV d L)}
    (hs : ∀ a, (![b', 0, 0] : Fin 3 → ℕ) a + S1x200x128.size a ≤ S2x200x128.size a) {srcw : Memref sig .scVector .hbm S200x128 .f32}
    {hsrc : srcw.view.WordExact} {hdst : (slotM b' hs).view.WordExact} {O : CellTallies nD τ sig (HIx 1)} {W : Waits sig (HIx 1)}
    {β : Type} {k : PUnit → Prog (TpuEff nD τ sig (Elt F) Λ₀ (.scVector (cV L) (jV L))) β} {Q : β → sProp 𝕄} :
    iprop(busy d L b sm q x r ∗ owes (V d (cV L) (jV L)) O W ∗ Transfers.MayWaits (V d (cV L) (jV L)) (default : HIx 1) O)
      ⊢ iprop((iprop((∃ f : Buf (Elt F) (bLocV d L), ⌜Holds x f b r⌝ ∗ bLocV d L ↦[slotSet b]{fullShare} f)
            ∗ semVal (V d (cV L) (jV L), .dma sm) 0 ∗ (xLocV d L ↦{q} x) ∗ owes (V d (cV L) (jV L)) O (insert (SemLoc.dma sm, default) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.waitDma2 sm srcw (slotM b' hs) hsrc hdst) >>= k) Q) := by
  unfold busy landed
  iintro ⟨⟨Hfl, Hxr⟩, HO, Hmw⟩ Hk
  iapply (Transfers.wp_waitLocalO countersEmb 𝒱₀ (V d (cV L) (jV L)) none (default : HIx 1) (cred_eq b' hs)) $$ [Hfl HO Hmw]
  · isplitl [Hfl]; · iexact Hfl
    isplitl [HO]; · iexact HO
    iapply (Transfers.MayWaits.elim (SemLoc.dma sm)) $$ Hmw
  iintro ⟨⟨Hb, Hx⟩, Hsem, HO⟩
  iapply Hk
  isplitl [Hb]; · iexact Hb
  isplitl [Hsem]; · iexact Hsem
  isplitl [Hx Hxr]
  · iapply (pointsTo_split_subset (q := q) (f := x) (S := Finset.univ) (Finset.subset_univ (winSet r))).2
    isplitl [Hx] <;> iassumption
  iexact HO

end Cert.Proof

end
-- ==== Proof.Group.lean ====
/-
  A tile's loop over its fifty copies, two a trip: wait for slot 0, add its 200 rows, issue its next copy; the same for
  slot 1. The invariant carries the accumulators' value.
-/
module

public import proofs.«01_k».proof.Proof.Dma

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

variable (d : Dev nD) (L : grid0.Coords)
variable (hx : (xV).IsWhole) (ho : (oV).IsWhole) (hb : (bV).IsWhole) (ha : (aV).IsWhole) (s2 s3 s0 : DmaSems sig S_)

/-- The first row of the tile. -/
abbrev rowBase (L : grid0.Coords) : ℕ := 10000 * wid L

/-- What a thread owes, its recorded waits grown at the default index only. -/
def owesD (O : CellTallies nD τ sig (HIx 1)) (W : Waits sig (HIx 1)) : sProp 𝕄 :=
  iprop(∃ W', ⌜∀ p ∈ W', p ∈ W ∨ p.2 = none⌝ ∗ owes (V d (cV L) (jV L)) O W')

/-- A slot before trip `t`: a copy in flight, or none left. -/
def slotAt (b : ℕ) (sm : DmaSem sig) (q : PosShare TreeShare) (x : Buf (Elt F) (xLocV d L)) (t : ℕ) : sProp 𝕄 :=
  if t < 25 then busy d L b sm q x (rowBase L + (400 * t + 200 * b)) else idle d L b sm q x

/-- At the start a slot is in flight with its first chunk. -/
theorem slotAt_zero (b : ℕ) (sm : DmaSem sig) (q : PosShare TreeShare) (x : Buf (Elt F) (xLocV d L)) :
    slotAt d L b sm q x 0 = busy d L b sm q x (rowBase L + (400 * 0 + 200 * b)) := if_pos (by omega)
/-- After the last round a slot is at rest. -/
theorem slotAt_end (b : ℕ) (sm : DmaSem sig) (q : PosShare TreeShare) (x : Buf (Elt F) (xLocV d L)) :
    slotAt d L b sm q x 25 = idle d L b sm q x := if_neg (by omega)

/-- Slot 0 is filled again in every round but the last. -/
theorem cond1_iff : ∀ t : Fin k0_t1_loop.trips, k0_cond1 t = 1#1 ↔ t.val + 1 < 25 := by decide +kernel
/-- Slot 1 is filled again in every round but the last. -/
theorem cond2_iff : ∀ t : Fin k0_t1_loop.trips, k0_cond2 t = 1#1 ↔ t.val + 1 < 25 := by decide +kernel

/-- The rows that slot 0's next copy brings. -/
theorem off11_eq' (t : Fin k0_t1_loop.trips) : k0_off11 L t = ![rowBase L + (400 * (t.val + 1) + 200 * 0), 0] := by
  rw [k0_off11_eq]; congr 1; show _ = 10000 * (2 * (L 1).val + (L 0).val) + _; omega
/-- The rows that slot 1's next copy brings. -/
theorem off20_eq' (t : Fin k0_t1_loop.trips) : k0_off20 L t = ![rowBase L + (400 * (t.val + 1) + 200 * 1), 0] := by
  rw [k0_off20_eq]; congr 1; show _ = 10000 * (2 * (L 1).val + (L 0).val) + _; omega

/-- A slot whose copy has landed: it holds its 200 rows. -/
def full (b : ℕ) (sm : DmaSem sig) (q : PosShare TreeShare) (x : Buf (Elt F) (xLocV d L)) (r : ℕ) : sProp 𝕄 :=
  iprop((∃ f : Buf (Elt F) (bLocV d L), ⌜Holds x f b r⌝ ∗ bLocV d L ↦[slotSet b]{fullShare} f)
    ∗ semVal (V d (cV L) (jV L), .dma sm) 0 ∗ (xLocV d L ↦{q} x))

/-- The end of a slot's turn: its next copy issued, or none left. -/
theorem wp_next {b t : ℕ} {sm : DmaSem sig} {q : PosShare TreeShare} {x : Buf (Elt F) (xLocV d L)} {c : Prop} [Decidable c] (hc : c ↔ t + 1 < 25)
    (hs : ∀ a, (![b, 0, 0] : Fin 3 → ℕ) a + S1x200x128.size a ≤ S2x200x128.size a)
    {off : Fin 2 → ℕ} (hw : c → ∀ a, off a + S200x128.size a ≤ S320000x128.size a) (e : off = ![rowBase L + (400 * (t + 1) + 200 * b), 0])
    {hsrc : ∀ h : c, (winM off (hw h)).view.WordExact} {hdst : c → (slotM b hs).view.WordExact}
    {hsem : c → DmaTarget.Typed (nD := nD) (τ := τ) (sig := sig) (p := Proc.scVector (cV L) (jV L)) .hbm (SemLoc.dma sm) (DmaTarget.here (slotM b hs))}
    {β : Type} {R : Prog (TpuEff nD τ sig (Elt F) Λ₀ (.scVector (cV L) (jV L))) β} {Q : β → sProp 𝕄} :
    idle d L b sm q x
      ⊢ iprop((slotAt d L b sm q x (t + 1) -∗ wp frame (wpE (defs₀ (F := F)) 𝒱₀ (V d (cV L) (jV L)) none) Set.univ R Q)
        -∗ wp frame (wpE (defs₀ (F := F)) 𝒱₀ (V d (cV L) (jV L)) none) Set.univ
            (if h : c then
                Prog.lift (.enqueueDma (winM off (hw h)) (.here (slotM b hs)) (.dma sm) (hsrc h) (hdst h) (hsem h)) >>= fun _ => R
              else R) Q) := by
  unfold slotAt
  by_cases h : c
  · rw [dif_pos h, if_pos (hc.mp h)]
    exact wp_issue (F := F) (k := fun _ => R) d L hs (hw h) e
  · rw [dif_neg h, if_neg (fun h' => h (hc.mpr h'))]
    iintro H Hk
    iapply Hk; iexact H

/-- A landed slot, free again. -/
theorem full_idle {b r : ℕ} {sm : DmaSem sig} {q : PosShare TreeShare} {x : Buf (Elt F) (xLocV d L)} :
    full d L b sm q x r ⊢ idle d L b sm q x := by
  unfold full idle
  iintro ⟨⟨%f, -, Hb⟩, Hsem, Hx⟩
  isplitl [Hsem]; · iexact Hsem
  isplitl [Hb]; · iexists f; iexact Hb
  iexact Hx

/-- Waiting for a slot's copy. -/
theorem wp_take {b b' r : ℕ} {sm : DmaSem sig} {q : PosShare TreeShare} {x : Buf (Elt F) (xLocV d L)}
    (hs : ∀ a, (![b', 0, 0] : Fin 3 → ℕ) a + S1x200x128.size a ≤ S2x200x128.size a) {srcw : Memref sig .scVector .hbm S200x128 .f32}
    {hsrc : srcw.view.WordExact} {hdst : (slotM b' hs).view.WordExact} {O : CellTallies nD τ sig (HIx 1)} {W : Waits sig (HIx 1)}
    {β : Type} {k : PUnit → Prog (TpuEff nD τ sig (Elt F) Λ₀ (.scVector (cV L) (jV L))) β} {Q : β → sProp 𝕄} :
    iprop(Transfers.MayWaits (V d (cV L) (jV L)) (default : HIx 1) O ∗ busy d L b sm q x r ∗ owesD d L O W)
      ⊢ iprop((iprop(full d L b sm q x r ∗ owesD d L O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.waitDma2 sm srcw (slotM b' hs) hsrc hdst) >>= k) Q) := by
  unfold owesD full
  iintro ⟨#Hmw, H0, %W', %hW', HO⟩ Hk
  iapply (wp_landed d L hs) $$ [H0 HO]
  · isplitl [H0]; · iexact H0
    isplitl [HO]; · iexact HO
    iexact Hmw
  iintro ⟨Hb, Hsem, Hx, HO⟩
  iapply Hk
  isplitl [Hb Hsem Hx]
  · isplitl [Hb]; · iexact Hb
    isplitl [Hsem]; · iexact Hsem
    iexact Hx
  iexists _; isplitr
  swap; · iexact HO
  ipureintro; intro p hp
  rcases Finset.mem_insert.mp hp with hp | hp; · exact .inr (hp ▸ rfl)
  exact hW' p hp

/-- Adding the rows of slot 0. -/
theorem wp_add0 {n : ℕ} {sm : DmaSem sig} {q : PosShare TreeShare} {x : Buf (Elt F) (xLocV d L)}
    (v2 c0 c1 : BitVec 32) (t1 : Fin k0_t1_loop.trips) (a9 a10 a11 a12 a13 a14 a15 a16 : FVec F S16 .f32)
    {β : Type} {k : _ → Prog (TpuEff nD τ sig (Elt F) Λ₀ (.scVector (cV L) (jV L))) β} {Q : β → sProp 𝕄} :
    full d L 0 sm q x (rowBase L + n)
      ⊢ iprop((idle d L 0 sm q x
            -∗ wp frame (wpE (defs₀ (F := F)) 𝒱₀ (V d (cV L) (jV L)) none) Set.univ (k (accs x (rowBase L) (n + 200))) Q)
        -∗ wp frame (wpE (defs₀ (F := F)) 𝒱₀ (V d (cV L) (jV L)) none) Set.univ
          (Scf.Loop.for k0_t2_loop k0_t2_ok (accs x (rowBase L) n)
            (k0_t2_body (F := F) L xV hx oV ho bV hb aV ha s2 s3 s0 v2 c0 c1 t1 a9 a10 a11 a12 a13 a14 a15 a16) >>= k) Q) := by
  unfold full
  iintro ⟨⟨%f, %hf, Hb⟩, Hsem, Hx⟩ Hk
  iapply (rows0 d L hx ho hb ha s2 s3 s0 hf) $$ Hb
  iintro Hb
  iapply Hk
  unfold idle
  isplitl [Hsem]; · iexact Hsem
  isplitl [Hb]; · iexists f; iexact Hb
  iexact Hx

/-- Adding the rows of slot 1. -/
theorem wp_add1 {n : ℕ} {sm : DmaSem sig} {q : PosShare TreeShare} {x : Buf (Elt F) (xLocV d L)}
    {β : Type} {k : _ → Prog (TpuEff nD τ sig (Elt F) Λ₀ (.scVector (cV L) (jV L))) β} {Q : β → sProp 𝕄} :
    full d L 1 sm q x (rowBase L + n)
      ⊢ iprop((idle d L 1 sm q x
            -∗ wp frame (wpE (defs₀ (F := F)) 𝒱₀ (V d (cV L) (jV L)) none) Set.univ (k (accs x (rowBase L) (n + 200))) Q)
        -∗ wp frame (wpE (defs₀ (F := F)) 𝒱₀ (V d (cV L) (jV L)) none) Set.univ
          (Scf.Loop.for k0_t3_loop k0_t3_ok (accs x (rowBase L) n)
            (k0_t3_body (F := F) L xV hx oV ho bV hb aV ha s2 s3 s0) >>= k) Q) := by
  unfold full
  iintro ⟨⟨%f, %hf, Hb⟩, Hsem, Hx⟩ Hk
  iapply (rows1 d L hx ho hb ha s2 s3 s0 hf) $$ Hb
  iintro Hb
  iapply Hk
  unfold idle
  isplitl [Hsem]; · iexact Hsem
  isplitl [Hb]; · iexists f; iexact Hb
  iexact Hx

/-- A trip's first part: slot 0's turn, then the wait for slot 1. -/
theorem wp_part1 {x : Buf (Elt F) (xLocV d L)} {q : PosShare TreeShare} {O : CellTallies nD τ sig (HIx 1)} {W : Waits sig (HIx 1)}
    (v2 c0 c1 : BitVec 32) (t : Fin k0_t1_loop.trips)
    {β : Type} {k : _ → Prog (TpuEff nD τ sig (Elt F) Λ₀ (.scVector (cV L) (jV L))) β} {Q : β → sProp 𝕄} :
    iprop(Transfers.MayWaits (V d (cV L) (jV L)) (default : HIx 1) O
        ∗ slotAt d L 0 s2.sem q.left x t.val ∗ slotAt d L 1 s3.sem q.right x t.val ∗ owesD d L O W)
      ⊢ iprop((∀ v w, iprop(slotAt d L 0 s2.sem q.left x (t.val + 1)
              ∗ full d L 1 s3.sem q.right x (rowBase L + (400 * t.val + 200)) ∗ owesD d L O W)
            -∗ wp frame (wpE (defs₀ (F := F)) 𝒱₀ (V d (cV L) (jV L)) none) Set.univ
                (k ⟨accV x (rowBase L) (400 * t.val + 200) 0, accV x (rowBase L) (400 * t.val + 200) 1, accV x (rowBase L) (400 * t.val + 200) 2,
                  accV x (rowBase L) (400 * t.val + 200) 3, accV x (rowBase L) (400 * t.val + 200) 4, accV x (rowBase L) (400 * t.val + 200) 5,
                  accV x (rowBase L) (400 * t.val + 200) 6, accV x (rowBase L) (400 * t.val + 200) 7, v, w⟩) Q)
        -∗ wp frame (wpE (defs₀ (F := F)) 𝒱₀ (V d (cV L) (jV L)) none) Set.univ
          (k0_part1 (F := F) L xV hx oV ho bV hb aV ha s2 s3 s0 v2 c0 c1 t
            (accV x (rowBase L) (400 * t.val) 0) (accV x (rowBase L) (400 * t.val) 1) (accV x (rowBase L) (400 * t.val) 2)
            (accV x (rowBase L) (400 * t.val) 3) (accV x (rowBase L) (400 * t.val) 4) (accV x (rowBase L) (400 * t.val) 5)
            (accV x (rowBase L) (400 * t.val) 6) (accV x (rowBase L) (400 * t.val) 7) >>= k) Q) := by
  have ht : t.val < 25 := t.isLt
  rw [k0_part1_eq_skeleton]; unfold k0_part1_skel
  rw [wp_bind]
  rw [show slotAt d L 0 s2.sem q.left x t.val = busy d L 0 s2.sem q.left x (rowBase L + (400 * t.val + 200 * 0)) from if_pos ht,
    show slotAt d L 1 s3.sem q.right x t.val = busy d L 1 s3.sem q.right x (rowBase L + (400 * t.val + 200 * 1)) from if_pos ht]
  iintro ⟨#Hmw, H0, H1, HO⟩ Hk
  iapply (wp_take d L inb_S2x200x128_S1x200x128_0_0_0) $$ [H0 HO]
  · isplitr; · iexact Hmw
    isplitl [H0]; · iexact H0
    iexact HO
  iintro ⟨H0, HO⟩
  iapply (wp_add0 d L hx ho hb ha s2 s3 s0 (n := 400 * t.val)) $$ H0
  iintro H0
  dsimp only
  iapply (wp_next d L (cond1_iff t) inb_S2x200x128_S1x200x128_0_0_0 (k0_off11_inb L t) (off11_eq' L t)) $$ H0
  iintro H0
  iapply (wp_take d L inb_S2x200x128_S1x200x128_1_0_0) $$ [H1 HO]
  · isplitr; · iexact Hmw
    isplitl [H1]; · iexact H1
    iexact HO
  iintro ⟨H1, HO⟩
  rw [wp_pure]; imodintro
  iapply Hk
  isplitl [H0]; · iexact H0
  isplitl [H1]; · iexact H1
  iexact HO

/-- One trip. -/
theorem trip {x : Buf (Elt F) (xLocV d L)} {q : PosShare TreeShare} {O : CellTallies nD τ sig (HIx 1)} {W : Waits sig (HIx 1)}
    (v2 : BitVec 32) (t : Fin k0_t1_loop.trips) :
    iprop(Transfers.MayWaits (V d (cV L) (jV L)) (default : HIx 1) O
        ∗ slotAt d L 0 s2.sem q.left x t.val ∗ slotAt d L 1 s3.sem q.right x t.val ∗ owesD d L O W)
      ⊢ wp frame (wpE (defs₀ (F := F)) 𝒱₀ (V d (cV L) (jV L)) none) Set.univ
          (k0_t1_body (F := F) L xV hx oV ho bV hb aV ha s2 s3 s0 v2 t (accs x (rowBase L) (400 * t.val)))
          fun acc => iprop(⌜acc = accs x (rowBase L) (400 * (t.val + 1))⌝
            ∗ slotAt d L 0 s2.sem q.left x (t.val + 1) ∗ slotAt d L 1 s3.sem q.right x (t.val + 1) ∗ owesD d L O W : sProp 𝕄) := by
  unfold k0_t1_body
  dsimp only [accs]
  iintro H
  iapply (wp_part1 d L hx ho hb ha s2 s3 s0) $$ H
  iintro %v %w ⟨H0, H1, HO⟩
  dsimp only
  iapply (wp_add1 d L hx ho hb ha s2 s3 s0 (n := 400 * t.val + 200)) $$ H1
  iintro H1
  dsimp only
  iapply (wp_next d L (cond2_iff t) inb_S2x200x128_S1x200x128_1_0_0 (k0_off20_inb L t) (off20_eq' L t)) $$ H1
  iintro H1
  rw [wp_pure]; imodintro
  isplitr; · ipureintro; rfl
  isplitl [H0]; · iexact H0
  isplitl [H1]; · iexact H1
  iexact HO

/-- The whole loop: from both slots' first copies in flight, the accumulators end at the tile's column sums. -/
theorem wp_trips {x : Buf (Elt F) (xLocV d L)} {q : PosShare TreeShare} {O : CellTallies nD τ sig (HIx 1)} {W : Waits sig (HIx 1)} (v2 : BitVec 32)
    {β : Type} {k : _ → Prog (TpuEff nD τ sig (Elt F) Λ₀ (.scVector (cV L) (jV L))) β} {Q : β → sProp 𝕄} :
    iprop(Transfers.MayWaits (V d (cV L) (jV L)) (default : HIx 1) O
        ∗ busy d L 0 s2.sem q.left x (rowBase L + (400 * 0 + 200 * 0)) ∗ busy d L 1 s3.sem q.right x (rowBase L + (400 * 0 + 200 * 1)) ∗ owesD d L O W)
      ⊢ iprop((iprop(idle d L 0 s2.sem q.left x ∗ idle d L 1 s3.sem q.right x ∗ owesD d L O W)
            -∗ wp frame (wpE (defs₀ (F := F)) 𝒱₀ (V d (cV L) (jV L)) none) Set.univ (k (accs x (rowBase L) 10000)) Q)
        -∗ wp frame (wpE (defs₀ (F := F)) 𝒱₀ (V d (cV L) (jV L)) none) Set.univ
          (Scf.Loop.for k0_t1_loop k0_t1_ok (k0_pay17 (F := F), k0_pay18 (F := F), k0_pay19 (F := F), k0_pay20 (F := F), k0_pay21 (F := F),
              k0_pay22 (F := F), k0_pay23 (F := F), k0_pay24 (F := F))
            (k0_t1_body (F := F) L xV hx oV ho bV hb aV ha s2 s3 s0 v2) >>= k) Q) := by
  rw [← accs_zero x (rowBase L)]
  rw [← slotAt_zero d L 0 s2.sem q.left x, ← slotAt_zero d L 1 s3.sem q.right x, ← slotAt_end d L 0 s2.sem q.left x,
    ← slotAt_end d L 1 s3.sem q.right x]
  iintro ⟨#Hmw, H0, H1, HO⟩ Hk
  iapply (Scf.wp_for_bind frame (wpE (defs₀ (F := F)) 𝒱₀ (V d (cV L) (jV L)) none) Set.univ _ _ _ k0_t1_ok _ _
    (fun t acc => iprop(⌜acc = accs x (rowBase L) (400 * t)⌝ ∗ Transfers.MayWaits (V d (cV L) (jV L)) (default : HIx 1) O
      ∗ slotAt d L 0 s2.sem q.left x t ∗ slotAt d L 1 s3.sem q.right x t ∗ owesD d L O W : sProp 𝕄)) ?_) $$ [H0 H1 HO]
  · intro t acc
    iintro ⟨%hacc, #Hmw, H⟩
    subst hacc
    iapply wp_wand $$ [H]
    · iapply (trip d L hx ho hb ha s2 s3 s0 (q := q) v2 t)
      isplitr; · iexact Hmw
      iexact H
    iintro %acc ⟨%h, H⟩
    isplitr; · ipureintro; exact h
    isplitr; · iexact Hmw
    iexact H
  · isplitr; · ipureintro; rfl
    isplitr; · iexact Hmw
    isplitl [H0]; · iexact H0
    isplitl [H1]; · iexact H1
    iexact HO
  iintro %acc ⟨%hacc, -, H0, H1, HO⟩
  subst hacc
  iapply Hk
  isplitl [H0]; · iexact H0
  isplitl [H1]; · iexact H1
  iexact HO

end Cert.Proof

end
-- ==== Proof.Tile.lean ====
/-
  A tile's whole body: the two first copies, the loop, the eight accumulators stored, and the tile's 128 sums copied out.
-/
module

public import proofs.«01_k».proof.Proof.Group

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

variable (d : Dev nD) (L : grid0.Coords)
variable (hx : (xV).IsWhole) (ho : (oV).IsWhole) (hb : (bV).IsWhole) (ha : (aV).IsWhole) (s2 s3 s0 : DmaSems sig S_)

/-! ## The loop with its two first copies -/

/-- Where the first two copies start. -/
theorem off1_eq' (r : Fin 2) (v : BitVec 32) (hv : v = 200#32 * BitVec.ofNat 32 r.val) (e : k0_off1 L v = ![20000 * (L 1).val + 10000 * (L 0).val + 200 * r.val, 0]) :
    k0_off1 L v = ![rowBase L + (400 * 0 + 200 * r.val), 0] := by
  rw [e]; congr 1; show _ = 10000 * (2 * (L 1).val + (L 0).val) + _; omega

/-- The first copies and the loop: both slots end idle and the accumulators hold the tile's column sums. -/
theorem wp_part2 {x : Buf (Elt F) (xLocV d L)} {q : PosShare TreeShare} {O : CellTallies nD τ sig (HIx 1)} {W : Waits sig (HIx 1)}
    {β : Type} {k : _ → Prog (TpuEff nD τ sig (Elt F) Λ₀ (.scVector (cV L) (jV L))) β} {Q : β → sProp 𝕄} :
    iprop(Transfers.MayWaits (V d (cV L) (jV L)) (default : HIx 1) O
        ∗ idle d L 0 s2.sem q.left x ∗ idle d L 1 s3.sem q.right x ∗ owesD d L O W)
      ⊢ iprop((∀ v, iprop(idle d L 0 s2.sem q.left x ∗ idle d L 1 s3.sem q.right x ∗ owesD d L O W)
            -∗ wp frame (wpE (defs₀ (F := F)) 𝒱₀ (V d (cV L) (jV L)) none) Set.univ
                (k ⟨v, accV x (rowBase L) 10000 0, accV x (rowBase L) 10000 1, accV x (rowBase L) 10000 2, accV x (rowBase L) 10000 3,
                  accV x (rowBase L) 10000 4, accV x (rowBase L) 10000 5, accV x (rowBase L) 10000 6, accV x (rowBase L) 10000 7⟩) Q)
        -∗ wp frame (wpE (defs₀ (F := F)) 𝒱₀ (V d (cV L) (jV L)) none) Set.univ
          (k0_part2 (F := F) L xV hx oV ho bV hb aV ha s2 s3 s0 >>= k) Q) := by
  rw [k0_part2_eq_skeleton]; unfold k0_part2_skel
  rw [wp_bind]
  iintro ⟨#Hmw, H0, H1, HO⟩ Hk
  iapply (wp_issue d L inb_S2x200x128_S1x200x128_0_0_0 (k0_off1_inb L 0) (off1_eq' L 0 _ rfl (k0_off1_eq L 0))) $$ H0
  iintro H0
  iapply (wp_issue d L inb_S2x200x128_S1x200x128_1_0_0 (k0_off1_inb L 1) (off1_eq' L 1 _ rfl (k0_off1_eq L 1))) $$ H1
  iintro H1
  iapply (wp_trips d L hx ho hb ha s2 s3 s0 (q := q) _) $$ [H0 H1 HO]
  · isplitr; · iexact Hmw
    isplitl [H0]; · iexact H0
    isplitl [H1]; · iexact H1
    iexact HO
  iintro H
  dsimp only [accs]
  rw [wp_pure]; imodintro
  iapply Hk
  iexact H

/-! ## The accumulators stored -/

/-- The first `n` accumulators are stored. -/
def Kept (x : S320000x128.Idx → F .f32) (base : ℕ) (f : S128.Idx → F .f32) (n : ℕ) : Prop :=
  ∀ k : S128.Idx, (k 0).val < 16 * n → f k = colAcc x base 10000 (k 0).val

/-- One accumulator's store. -/
theorem kept_step (x : S320000x128.Idx → F .f32) (base : ℕ) (f : S128.Idx → F .f32) (n : ℕ) (hf : Kept x base f n) (v : FVec F S16 .f32)
    (hv : v = accV x base 10000 n) (off : Fin 1 → ℕ) (h : ∀ a, off a + S16.size a ≤ S128.size a) (e : off = ![16 * n]) :
    Kept x base (((aV).access (Rect.unit (s := S128) off S16.size h)).write (Elt F) f v Finset.univ) (n + 1) := by
  subst e hv
  intro k hk
  by_cases hn : (k 0).val < 16 * n
  · refine Eq.trans (View.write_of_not_mem (Val := Elt F) (v := (aV).access (Rect.unit (s := S128) ![16 * n] S16.size h)) f _ _ ?_) (hf k hn)
    intro hk'
    have h1 : k ∈ (Rect.unit (s := S128) ![16 * n] S16.size h).set := by
      rw [View.setOn_univ] at hk'
      exact (View.set_slice_whole (cc0_scratch1 : Ref sig .scVector) _) ▸ hk'
    have h2 : 16 * n ≤ (k 0).val := (Rect.mem_set_unit.mp h1 0).1
    omega
  · let y : S16.Idx := fun a => match a with | 0 => ⟨(k 0).val - 16 * n, by show _ < 16; omega⟩
    have hemb : ((aV).access (Rect.unit (s := S128) ![16 * n] S16.size h)).emb y = k := by
      funext a
      match a with
      | 0 => exact Fin.ext (by show 16 * n + 1 * ((k 0).val - 16 * n) = (k 0).val; omega)
    have key := View.write_emb_of_mem (v := (aV).access (Rect.unit (s := S128) ![16 * n] S16.size h)) (Val := Elt F) f
      (accV x base 10000 n) (Finset.mem_univ y)
    rw [hemb] at key
    refine key.trans ?_
    show colAcc x base 10000 (16 * n + ((k 0).val - 16 * n)) = _
    congr 1; omega

/-- The load and the store of one accumulator, at the head of a program. -/
theorem wp_keep {α : Type} {x : Buf (Elt F) (xLocV d L)} {base n : ℕ} {off : Fin 1 → ℕ} (h : ∀ a, off a + S16.size a ≤ S128.size a) (e : off = ![16 * n])
    {v : FVec F S16 .f32} (hv : v = accV x base 10000 n)
    {hl : (aV).view.LoadsAt (Rect.unit (s := S128) off S16.size h).toLoadRect}
    {hst : ((aV).access (Rect.unit (s := S128) off S16.size h)).Stores Finset.univ} {hm : (Finset.univ : Finset S16.Idx) = Finset.univ ∨ _}
    {k : PUnit → Prog (TpuEff nD τ sig (Elt F) Λ₀ (.scVector (cV L) (jV L))) α} {Q : α → sProp 𝕄} :
    iprop(∃ f : Buf (Elt F) (aLocV d L), ⌜Kept x base f n⌝ ∗ (aLocV d L ↦{fullShare} f))
      ⊢ iprop((iprop(∃ f : Buf (Elt F) (aLocV d L), ⌜Kept x base f (n + 1)⌝ ∗ (aLocV d L ↦{fullShare} f))
            -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.load (aV) (Rect.unit (s := S128) off S16.size h).toLoadRect hl) >>= fun _ =>
              Prog.lift (.store (aV) (Rect.unit (s := S128) off S16.size h) v Finset.univ hst hm) >>= k) Q) := by
  iintro ⟨%f, %hf, Ha⟩ Hk
  iapply (wp_load 𝒱₀ (V d (cV L) (jV L)) none Set.univ (Finset.subset_univ _)) $$ Ha
  iintro Ha
  iapply (wp_store 𝒱₀ (V d (cV L) (jV L)) none Set.univ (m := aV) (r := Rect.unit (s := S128) off S16.size h) (f := f) (Finset.subset_univ _)) $$ Ha
  iintro Ha
  iapply Hk
  iexists _
  isplitr
  swap; · iexact Ha
  ipureintro
  exact kept_step x base f n hf v hv off h e

/-! ## The sums copied out -/

/-- A subcore's view of the tiles' sums. -/
abbrev oLocV (d : Dev nD) (L : grid0.Coords) : Loc nD τ sig := (oV).view.loc (V d (cV L) (jV L))

/-- The tile's 128 sums as its copy addresses them. -/
abbrev outM (L : grid0.Coords) : Memref sig .scVector .hbm S128 .f32 :=
  (oV).slice (Rect.unit (s := S4096) (k0_off21 L) S128.size (k0_off21_inb L)) (fun _ => rfl)

/-- Where the copy out goes. -/
theorem off21_eq' : k0_off21 L = ![128 * wid L] := by
  rw [k0_off21_eq]; congr 1; show _ = 128 * (2 * (L 1).val + (L 0).val); omega

/-- The view of the copy out covers the tile's segment. -/
theorem set_outM : (outM L).view.set = outSet (wid L) := by
  refine (View.set_slice_whole (main_v0_scv : Ref sig .scVector) _).trans ?_
  ext j
  refine Rect.mem_set_unit.trans ⟨fun hj => ?_, fun hj a => ?_⟩
  · have h0 := hj 0
    rw [off21_eq'] at h0
    have h1 : 128 * wid L ≤ (j 0).val := h0.1
    have h2 : (j 0).val < 128 * wid L + 128 := h0.2
    exact Finset.mem_filter.mpr ⟨Finset.mem_univ _, by omega⟩
  · have hj := (Finset.mem_filter.mp hj).2
    rw [off21_eq']
    match a with
    | 0 => exact ⟨by show 128 * wid L ≤ (j 0).val; omega, by show (j 0).val < 128 * wid L + 128; omega⟩

/-- What the copy of the stored accumulators leaves: the tile's block of the sums. -/
theorem out_copy (x : S320000x128.Idx → F .f32) (f : S128.Idx → F .f32) (g : S4096.Idx → F .f32) (hf : Kept x (rowBase L) f 8) :
    ∀ j ∈ outSet (wid L), (outM L).view.write (Elt F) g ((aV).view.read (Elt F) f) Finset.univ j = partials x j := by
  intro j hj
  have hj := (Finset.mem_filter.mp hj).2
  have hlt : (j 0).val % 128 < 128 := Nat.mod_lt _ (by decide)
  let y : S128.Idx := fun a => match a with | 0 => ⟨(j 0).val % 128, hlt⟩
  have hemb : (outM L).view.emb y = j := by
    funext a
    match a with
    | 0 =>
      refine Fin.ext ?_
      show k0_off21 L 0 + 1 * ((j 0).val % 128) = (j 0).val
      rw [off21_eq']
      show 128 * wid L + 1 * ((j 0).val % 128) = (j 0).val
      omega
  have key := View.write_emb_of_mem (v := (outM L).view) (Val := Elt F) g ((aV).view.read (Elt F) f) (Finset.mem_univ y)
  rw [hemb] at key
  refine key.trans ?_
  show f y = colAcc x (10000 * ((j 0).val / 128)) 10000 ((j 0).val % 128)
  rw [hf y (by show (j 0).val % 128 < 16 * 8; omega), hj]

/-- The copy out and its wait. -/
theorem wp_out {x : Buf (Elt F) (xLocV d L)} {O : CellTallies nD τ sig (HIx 1)} {W : Waits sig (HIx 1)}
    {h1 : (aV).view.WordExact} {h2 : (outM L).view.WordExact} {h4 : (outM L).view.WordExact} {h5 : (aV).view.WordExact}
    {h3 : DmaTarget.Typed (nD := nD) (τ := τ) (sig := sig) (p := Proc.scVector (cV L) (jV L)) .vmem (SemLoc.dma s0.sem) (DmaTarget.here (outM L))}
    {α : Type} {k : PUnit → Prog (TpuEff nD τ sig (Elt F) Λ₀ (.scVector (cV L) (jV L))) α} {Q : α → sProp 𝕄} :
    iprop(Transfers.MayWaits (V d (cV L) (jV L)) (default : HIx 1) O
        ∗ (∃ f : Buf (Elt F) (aLocV d L), ⌜Kept x (rowBase L) f 8⌝ ∗ (aLocV d L ↦{fullShare} f))
        ∗ (∃ g : Buf (Elt F) (oLocV d L), oLocV d L ↦[outSet (wid L)]{fullShare} g)
        ∗ semVal (V d (cV L) (jV L), .dma s0.sem) 0 ∗ owesD d L O W)
      ⊢ iprop((iprop((∃ f : Buf (Elt F) (aLocV d L), aLocV d L ↦{fullShare} f)
              ∗ (oLocV d L ↦[outSet (wid L)]{fullShare} (partials x : Buf (Elt F) (oLocV d L)))
              ∗ semVal (V d (cV L) (jV L), .dma s0.sem) 0 ∗ owesD d L O W)
            -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.enqueueDma (aV) (.here (outM L)) (.dma s0.sem) h1 h2 h3) >>= fun _ =>
              Prog.lift (.waitDma2 s0.sem (aV) (outM L) h5 h4) >>= k) Q) := by
  unfold owesD
  iintro ⟨#Hmw, ⟨%f, %hf, Ha⟩, ⟨%g, Ho⟩, Hsem, %W', %hW', HO⟩ Hk
  ihave Ha := (Entails.of_eq (show (aLocV d L ↦{fullShare} f : sProp 𝕄) = (aV).view.loc (V d (cV L) (jV L)) ↦[(aV).view.set]{fullShare} f by
    rw [show (aV).view.set = Finset.univ from View.set_whole _])) $$ Ha
  iapply (Transfers.wp_dmaLocal countersEmb 𝒱₀ (V d (cV L) (jV L)) none (src := aV) (dst := outM L) (fs := f) (fd := g) (Sd := outSet (wid L))
    (default : HIx 1) _ (show (outM L).view.amount (.dma s0.sem) = (outM L).view.dmaCredit from rfl) (View.dmaCredit_pos _ (by decide))
    (le_of_eq (set_outM L))) $$ [Hsem Ha Ho]
  · isplitl [Ha]; · iexact Ha
    isplitl [Ho]; · iexact Ho
    iexact Hsem
  iintro Hfl
  iapply (Transfers.wp_waitLocalO countersEmb 𝒱₀ (V d (cV L) (jV L)) none (default : HIx 1) rfl) $$ [Hfl HO]
  · isplitl [Hfl]; · iexact Hfl
    isplitl [HO]; · iexact HO
    iapply (Transfers.MayWaits.elim (SemLoc.dma s0.sem)) $$ Hmw
  iintro ⟨⟨Ho, Ha⟩, Hsem, HO⟩
  iapply Hk
  isplitl [Ha]
  · iexists f
    iapply (Entails.of_eq (show (aLocV d L ↦{fullShare} f : sProp 𝕄) = (aV).view.loc (V d (cV L) (jV L)) ↦[(aV).view.set]{fullShare} f by
      rw [show (aV).view.set = Finset.univ from View.set_whole _]).symm) $$ Ha
  isplitl [Ho]
  · iapply (Entails.of_eq (pointsTo_congr (ℓ := oLocV d L) (I := outSet (wid L)) (q := fullShare) (out_copy L x f g hf))) $$ Ho
  isplitl [Hsem]; · iexact Hsem
  iexists _; isplitr
  swap; · iexact HO
  ipureintro; intro p hp
  rcases Finset.mem_insert.mp hp with hp | hp; · exact .inr (hp ▸ rfl)
  exact hW' p hp

/-! ## The whole body -/

/-- The tile's body: from the argument's share, the two slots, the accumulators' buffer and the three cells, the tile's block of the sums ends at
    its 128 column sums, everything else as it was. -/
theorem wp_tile {x : Buf (Elt F) (xLocV d L)} {q : PosShare TreeShare} {O : CellTallies nD τ sig (HIx 1)} {W : Waits sig (HIx 1)} :
    iprop(Transfers.MayWaits (V d (cV L) (jV L)) (default : HIx 1) O
        ∗ idle d L 0 s2.sem q.left x ∗ idle d L 1 s3.sem q.right x
        ∗ (∃ f : Buf (Elt F) (aLocV d L), aLocV d L ↦{fullShare} f)
        ∗ (∃ g : Buf (Elt F) (oLocV d L), oLocV d L ↦[outSet (wid L)]{fullShare} g)
        ∗ semVal (V d (cV L) (jV L), .dma s0.sem) 0 ∗ owesD d L O W)
      ⊢ wp frame (wpE (defs₀ (F := F)) 𝒱₀ (V d (cV L) (jV L)) none) Set.univ (cc0_body (F := F) L xV hx oV ho bV hb aV ha s2 s3 s0)
          fun _ => iprop(idle d L 0 s2.sem q.left x ∗ idle d L 1 s3.sem q.right x
            ∗ (∃ f : Buf (Elt F) (aLocV d L), aLocV d L ↦{fullShare} f)
            ∗ (oLocV d L ↦[outSet (wid L)]{fullShare} (partials x : Buf (Elt F) (oLocV d L)))
            ∗ semVal (V d (cV L) (jV L), .dma s0.sem) 0 ∗ owesD d L O W) := by
  rw [cc0_body_eq_skeleton]; unfold cc0_body_skel
  iintro ⟨#Hmw, H0, H1, ⟨%f, Ha⟩, Ho, Hsem, HO⟩
  iapply (wp_part2 d L hx ho hb ha s2 s3 s0 (q := q)) $$ [H0 H1 HO]
  · isplitr; · iexact Hmw
    isplitl [H0]; · iexact H0
    isplitl [H1]; · iexact H1
    iexact HO
  iintro %v ⟨H0, H1, HO⟩
  dsimp only
  ihave Ha : (∃ f : Buf (Elt F) (aLocV d L), ⌜Kept x (rowBase L) f 0⌝ ∗ (aLocV d L ↦{fullShare} f)) $$ [Ha]
  · iexists f; isplitr
    · ipureintro; intro k hk; exact absurd hk (Nat.not_lt_zero _)
    iexact Ha
  iapply (wp_keep d L (n := 0) inb_S128_S16_0 rfl (cast16 _)) $$ Ha
  iintro Ha
  iapply (wp_keep d L (n := 1) inb_S128_S16_16 rfl (cast16 _)) $$ Ha
  iintro Ha
  iapply (wp_keep d L (n := 2) inb_S128_S16_32 rfl (cast16 _)) $$ Ha
  iintro Ha
  iapply (wp_keep d L (n := 3) inb_S128_S16_48 rfl (cast16 _)) $$ Ha
  iintro Ha
  iapply (wp_keep d L (n := 4) inb_S128_S16_64 rfl (cast16 _)) $$ Ha
  iintro Ha
  iapply (wp_keep d L (n := 5) inb_S128_S16_80 rfl (cast16 _)) $$ Ha
  iintro Ha
  iapply (wp_keep d L (n := 6) inb_S128_S16_96 rfl (cast16 _)) $$ Ha
  iintro Ha
  iapply (wp_keep d L (n := 7) inb_S128_S16_112 rfl (cast16 _)) $$ Ha
  iintro Ha
  iapply (wp_out d L s0) $$ [Ha Ho Hsem HO]
  · isplitr; · iexact Hmw
    isplitl [Ha]; · iexact Ha
    isplitl [Ho]; · iexact Ho
    isplitl [Hsem]; · iexact Hsem
    iexact HO
  iintro ⟨Ha, Ho, Hsem, HO⟩
  rw [wp_pure]; imodintro
  isplitl [H0]; · iexact H0
  isplitl [H1]; · iexact H1
  isplitl [Ha]; · iexact Ha
  isplitl [Ho]; · iexact Ho
  isplitl [Hsem]; · iexact Hsem
  iexact HO

end Cert.Proof

end
-- ==== Proof.Launch.lean ====
/-
  The launch: what a SparseCore and a tile are handed and hand back, a tile's obligation, and how a SparseCore's hand-over
  splits among its sixteen tiles. A SparseCore takes half a share of the argument and the sums' blocks of its tiles; a tile
  takes a sixteenth of that share and its own block, and hands its block back at its column sums.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the handshakes carry -/

/-- The argument at the launch. -/
abbrev xIn (d : Dev nD) : Buf (Elt F) (xLoc d) := m (xLoc d)
/-- The tiles' sums of the argument. -/
abbrev oOut (d : Dev nD) : Buf (Elt F) (oLoc d) := partials (F := F) (xIn m d)

/-- A SparseCore's share of the argument, and a block of the sums. -/
abbrev xCore (d : Dev nD) (c : Fin 2) : sProp 𝕄 := xLoc d ↦{coreShare c} xIn m d
/-- A tile's read share of the messages. -/
abbrev xTile (d : Dev nD) (c : Fin 2) (s : Fin 16) : sProp 𝕄 := xLoc d ↦{tileShare c s} xIn m d
/-- A tile's segment of the sums' array. -/
abbrev oTile (d : Dev nD) (c : Fin 2) (s : Fin 16) (f : Buf (Elt F) (oLoc d)) : sProp 𝕄 := oLoc d ↦[outSet (2 * s.val + c.val)]{fullShare} f

/-- What the one call's handshakes carry. -/
def P : (K (F := F)).Pay (nD := nD) (Val := Elt F) (Name := ℕ) (U := UU) where
  st := fun q d c => match q with
    | 0 => iprop(xCore m d (Fin.cast nCore_zero c) ∗ bigSep Finset.univ fun s : Fin 16 => oTile d (Fin.cast nCore_zero c) s (m (oLoc d)))
  dn := fun q d c => match q with
    | 0 => iprop(xCore m d (Fin.cast nCore_zero c) ∗ bigSep Finset.univ fun s : Fin 16 => oTile d (Fin.cast nCore_zero c) s (oOut m d))
  go := fun q d c i => match q with
    | 0 => iprop(xTile m d (Fin.cast nCore_zero c) (Fin.cast nSub_zero i) ∗ oTile d (Fin.cast nCore_zero c) (Fin.cast nSub_zero i) (m (oLoc d)))
  td := fun q d c i => match q with
    | 0 => iprop(xTile m d (Fin.cast nCore_zero c) (Fin.cast nSub_zero i) ∗ oTile d (Fin.cast nCore_zero c) (Fin.cast nSub_zero i) (oOut m d))
  x := fun _ _ => iprop(emp)

/-- What the handshakes carry can be stored in an invariant. -/
instance P_storable : (P (F := F) m).IsStorable where
  st q d c := match q with
    | 0 => (inferInstance : BI.Storable (upEmb : UEmb _ 𝕄)
      iprop(xCore m d (Fin.cast nCore_zero c) ∗ bigSep Finset.univ fun s : Fin 16 => oTile d (Fin.cast nCore_zero c) s (m (oLoc d))))
  dn q d c := match q with
    | 0 => (inferInstance : BI.Storable (upEmb : UEmb _ 𝕄)
      iprop(xCore m d (Fin.cast nCore_zero c) ∗ bigSep Finset.univ fun s : Fin 16 => oTile d (Fin.cast nCore_zero c) s (oOut m d)))
  go q d c i := match q with
    | 0 => (inferInstance : BI.Storable (upEmb : UEmb _ 𝕄)
      iprop(xTile m d (Fin.cast nCore_zero c) (Fin.cast nSub_zero i) ∗ oTile d (Fin.cast nCore_zero c) (Fin.cast nSub_zero i) (m (oLoc d))))
  td q d c i := match q with
    | 0 => (inferInstance : BI.Storable (upEmb : UEmb _ 𝕄)
      iprop(xTile m d (Fin.cast nCore_zero c) (Fin.cast nSub_zero i) ∗ oTile d (Fin.cast nCore_zero c) (Fin.cast nSub_zero i) (oOut m d)))

/-! ## The tile's own buffers and cells -/

section Tile

variable (d : Dev nD) (L : grid0.Coords)

/-- A tile's semaphore of slot 0. -/
abbrev c2cell (d : Dev nD) (c : Fin τ.nSC) (i : Fin τ.nSub) : GSem nD τ sig := (V d c i, .dma cc0_scratch2.sem)
/-- A tile's semaphore of slot 1. -/
abbrev c3cell (d : Dev nD) (c : Fin τ.nSC) (i : Fin τ.nSub) : GSem nD τ sig := (V d c i, .dma cc0_scratch3.sem)
/-- A tile's semaphore of the copy out. -/
abbrev c0cell (d : Dev nD) (c : Fin τ.nSC) (i : Fin τ.nSub) : GSem nD τ sig := (V d c i, .dma cc0_scoped0.sem)

/-- The tile's three cells, and the rest. -/
theorem ownSems0_V :
    (ownSems0 (V d (cV L) (jV L)) : sProp 𝕄)
      = iprop(semVal (c2cell d (cV L) (jV L)) 0 ∗ semVal (c3cell d (cV L) (jV L)) 0 ∗ semVal (c0cell d (cV L) (jV L)) 0
          ∗ bigSep ((((ownCells (V d (cV L) (jV L))).erase (c2cell d (cV L) (jV L))).erase (c3cell d (cV L) (jV L))).erase (c0cell d (cV L) (jV L))) fun g => semVal g 0) := by
  unfold SparseCore.Cfg.ownSems0
  rw [SparseCore.bigSep_erase' ((mem_ownCells (g := c2cell d (cV L) (jV L))).mpr ⟨rfl, by
      show (SemLoc.dma cc0_scratch2.sem : SemLoc sig).isScoped .scVector = true; decide⟩),
    SparseCore.bigSep_erase' (Finset.mem_erase.mpr ⟨by simp [c2cell, c3cell]; decide, (mem_ownCells (g := c3cell d (cV L) (jV L))).mpr ⟨rfl, by
      show (SemLoc.dma cc0_scratch3.sem : SemLoc sig).isScoped .scVector = true; decide⟩⟩),
    SparseCore.bigSep_erase' (Finset.mem_erase.mpr ⟨by simp [c3cell, c0cell]; decide, Finset.mem_erase.mpr ⟨by simp [c2cell, c0cell]; decide,
      (mem_ownCells (g := c0cell d (cV L) (jV L))).mpr ⟨rfl, by show (SemLoc.dma cc0_scoped0.sem : SemLoc sig).isScoped .scVector = true; decide⟩⟩⟩)]

/-- The staging buffer, the accumulators' buffer, and the rest. -/
theorem ownBufs_V :
    (ownBufs (V d (cV L) (jV L)) : sProp 𝕄)
      = iprop((∃ f : Buf (Elt F) (bLocV d L), bLocV d L ↦{fullShare} f) ∗ (∃ f : Buf (Elt F) (aLocV d L), aLocV d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What is not in slot 0 is in slot 1. -/
theorem slot1_eq : Finset.univ \ slotSet 0 = slotSet 1 := by
  ext j
  have h : (j 0).val < 2 := (j 0).isLt
  simp only [slotSet, Finset.mem_sdiff, Finset.mem_univ, true_and, Finset.mem_filter]
  omega

/-- The staging buffer is its two slots. -/
theorem slots_split (f : Buf (Elt F) (bLocV d L)) :
    (bLocV d L ↦{fullShare} f : sProp 𝕄) ⊢ iprop((bLocV d L ↦[slotSet 0]{fullShare} f) ∗ bLocV d L ↦[slotSet 1]{fullShare} f) := by
  rw [← slot1_eq]
  exact (pointsTo_split_subset (q := fullShare) (f := f) (S := Finset.univ) (Finset.subset_univ (slotSet 0))).1
/-- The two slots together are the whole buffer. -/
theorem slots_join (f g : Buf (Elt F) (bLocV d L)) :
    iprop((bLocV d L ↦[slotSet 0]{fullShare} f) ∗ bLocV d L ↦[slotSet 1]{fullShare} g) ⊢ (iprop(∃ h : Buf (Elt F) (bLocV d L), bLocV d L ↦{fullShare} h) : sProp 𝕄) := by
  rw [← slot1_eq]
  iintro H
  iexists _
  iapply (pointsTo_join_subset (q := fullShare) (g := f) (f := g) (S := Finset.univ) (Finset.subset_univ (slotSet 0))) $$ H

/-- A grid point's SparseCore among the two. -/
abbrev cL (L : grid0.Coords) : Fin 2 := Fin.cast bound_zero (L 0)
/-- A grid point's subcore among the sixteen. -/
abbrev sL (L : grid0.Coords) : Fin 16 := Fin.cast bound_one (L 1)

/-- The tile's task: from its share of the argument and its block of the sums to its block at its column sums. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xTile m d (cL L) (sL L) ∗ oTile d (cL L) (sL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body (F := F) L xV (Memref.isWhole_whole _) oV (Memref.isWhole_whole _) bV (Memref.isWhole_whole _) aV (Memref.isWhole_whole _)
            cc0_scratch2 cc0_scratch3 cc0_scoped0)
          fun _ => iprop((xTile m d (cL L) (sL L) ∗ oTile d (cL L) (sL L) (oOut m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fb, Hb⟩, Ha, Hbufs⟩, ⟨Hsem2, Hsem3, Hsem0, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hbs := (slots_split d L fb) $$ Hb
  icases Hbs with ⟨Hb0, Hb1⟩
  ihave Hxs := (pointsTo_share (ℓ := xLocV d L) (I := Finset.univ) (f := xIn m d) (PosShare.mem_left_op_right (tileShare (cL L) (sL L)))).1 $$ Hx
  icases Hxs with ⟨Hx0, Hx1⟩
  iapply wp_wand $$ [Hmw Hb0 Hb1 Hx0 Hx1 Ha Ho Hsem2 Hsem3 Hsem0 HO]
  · iapply (wp_tile d L (Memref.isWhole_whole _) (Memref.isWhole_whole _) (Memref.isWhole_whole _) (Memref.isWhole_whole _) cc0_scratch2 cc0_scratch3
      cc0_scoped0 (x := xIn m d) (q := tileShare (cL L) (sL L)) (O := O) (W := W))
    unfold idle owesD
    isplitl [Hmw]; · iexact Hmw
    isplitl [Hsem2 Hb0 Hx0]
    · isplitl [Hsem2]; · iexact Hsem2
      isplitl [Hb0]; · iexists fb; iexact Hb0
      iexact Hx0
    isplitl [Hsem3 Hb1 Hx1]
    · isplitl [Hsem3]; · iexact Hsem3
      isplitl [Hb1]; · iexists fb; iexact Hb1
      iexact Hx1
    isplitl [Ha]; · iexact Ha
    isplitl [Ho]; · iexists _; iexact Ho
    isplitl [Hsem0]; · iexact Hsem0
    iexists W; isplitr
    · ipureintro; exact fun p hp => .inl hp
    iexact HO
  unfold idle owesD
  iintro %_ ⟨⟨Hsem2, ⟨%f0, Hb0⟩, Hx0⟩, ⟨Hsem3, ⟨%f1, Hb1⟩, Hx1⟩, Ha, Ho, Hsem0, HO⟩
  isplitl [Hx0 Hx1 Ho]
  · isplitl [Hx0 Hx1]
    · iapply (pointsTo_share (ℓ := xLocV d L) (I := Finset.univ) (f := xIn m d) (PosShare.mem_left_op_right (tileShare (cL L) (sL L)))).2
      isplitl [Hx0] <;> iassumption
    iexact Ho
  isplitl [Hb0 Hb1 Ha Hbufs]
  · isplitl [Hb0 Hb1]
    · iapply (slots_join d L f0 f1)
      isplitl [Hb0] <;> iassumption
    isplitl [Ha]; · iexact Ha
    iexact Hbufs
  isplitl [Hsem2 Hsem3 Hsem0 Hsems]
  · isplitl [Hsem2]; · iexact Hsem2
    isplitl [Hsem3]; · iexact Hsem3
    isplitl [Hsem0]; · iexact Hsem0
    iexact Hsems
  iexact HO

/-! ## The obligation -/

/-- The pair (SparseCore, subcore) as the body's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- On a tile the body table holds the tile's kernel. -/
theorem defs₀_vector (c : Fin τ.nSC) (s : Fin τ.nSub) :
    defs₀ (F := F) (.scVector c s) 0 ()
      = SparseCore.onTile hcore0 hsub0 (fun c s => cc0_body (coordsV c s)
          xV (Memref.isWhole_whole _) oV (Memref.isWhole_whole _) bV (Memref.isWhole_whole _) aV (Memref.isWhole_whole _)
          cc0_scratch2 cc0_scratch3 cc0_scoped0) ⟨⟩ c s := rfl

/-- A tile's result, brought into the order in which the launch asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of a tile. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## How the hand-overs split -/

/-- The tasks of a SparseCore are its sixteen subcores'. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the argument is its tiles' shares. -/
theorem xCore_tiles (d : Dev nD) (c : Fin 2) : xCore m d c = bigSep Finset.univ fun s : Fin 16 => xTile m d c s :=
  pointsTo_leaves Finset.univ (xIn m d) 4 (coreShare c)

/-- A SparseCore's hand-over splits among its tiles, and theirs join to its own. -/
theorem vecSplit : (K (F := F)).VecSplit' (P m) 0 := by
  intro d c
  show iprop(xCore m d (Fin.cast nCore_zero c) ∗ bigSep Finset.univ fun s : Fin 16 => oTile d (Fin.cast nCore_zero c) s (m (oLoc d))) ⊢ |={Set.univ}=> iprop(
      (bigSep Finset.univ fun i : Fin ((K (F := F)).nSub 0) =>
        iprop(xTile m d (Fin.cast nCore_zero c) (Fin.cast nSub_zero i) ∗ oTile d (Fin.cast nCore_zero c) (Fin.cast nSub_zero i) (m (oLoc d))))
      ∗ ((bigSep Finset.univ fun i : Fin ((K (F := F)).nSub 0) =>
          iprop(xTile m d (Fin.cast nCore_zero c) (Fin.cast nSub_zero i) ∗ oTile d (Fin.cast nCore_zero c) (Fin.cast nSub_zero i) (oOut m d)))
          -∗ iprop(xCore m d (Fin.cast nCore_zero c) ∗ bigSep Finset.univ fun s : Fin 16 => oTile d (Fin.cast nCore_zero c) s (oOut m d))))
  rw [bigSep_tasks (F := F) (fun i => iprop(xTile m d (Fin.cast nCore_zero c) i ∗ oTile d (Fin.cast nCore_zero c) i (m (oLoc d)))),
    bigSep_tasks (F := F) (fun i => iprop(xTile m d (Fin.cast nCore_zero c) i ∗ oTile d (Fin.cast nCore_zero c) i (oOut m d))), bigSep_sep', bigSep_sep',
    xCore_tiles]
  iintro H; imodintro
  isplitl [H]; · iexact H
  iintro H; iexact H

/-- The argument's two halves. -/
theorem xPts_cores (d : Dev nD) : (xLoc d ↦{fullShare} xIn m d : sProp 𝕄) = iprop(xCore m d 0 ∗ xCore m d 1) :=
  (pointsTo_leaves Finset.univ (xIn m d) 1 fullShare).trans (BI.bigSep_fin_two _)

/-- The blocks of one SparseCore's tiles. -/
def coreSet (c : Fin 2) : Finset S4096.Idx := (Finset.univ : Finset (Fin 16)).biUnion fun s => outSet (2 * s.val + c.val)

/-- A word belongs to a SparseCore according to the parity of its segment. -/
theorem mem_coreSet (c : Fin 2) (j : S4096.Idx) : j ∈ coreSet c ↔ (j 0).val / 128 % 2 = c.val := by
  have h : (j 0).val < 4096 := (j 0).isLt
  have hc := c.isLt
  simp only [coreSet, outSet, Finset.mem_biUnion, Finset.mem_univ, true_and, Finset.mem_filter]
  refine ⟨fun ⟨s, hs⟩ => by omega, fun hs => ⟨⟨(j 0).val / 128 / 2, by omega⟩, ?_⟩⟩
  show (j 0).val / 128 = 2 * ((j 0).val / 128 / 2) + c.val
  omega

/-- One SparseCore's blocks of the sums. -/
theorem oPts_core (d : Dev nD) (c : Fin 2) (f : Buf (Elt F) (oLoc d)) :
    (oLoc d ↦[coreSet c]{fullShare} f : sProp 𝕄) = bigSep Finset.univ fun s : Fin 16 => oTile d c s f := by
  unfold coreSet
  exact pointsTo_biUnion (ℓ := oLoc d) Finset.univ (fun s : Fin 16 => outSet (2 * s.val + c.val)) (fun s _ s' _ h => by
    rw [Finset.disjoint_left]
    intro j hj hj'
    have h1 := (Finset.mem_filter.mp hj).2
    have h2 := (Finset.mem_filter.mp hj').2
    exact h (Fin.ext (by omega)))

/-- The two SparseCores' parts of the sums' array are disjoint. -/
theorem cores_disjoint : Disjoint (coreSet 0) (coreSet 1) := by
  rw [Finset.disjoint_left]
  intro j hj hj'
  exact absurd (((mem_coreSet 0 j).mp hj).symm.trans ((mem_coreSet 1 j).mp hj')) (by decide)

/-- They are the whole array. -/
theorem cores_cover : coreSet 0 ∪ coreSet 1 = Finset.univ := by
  refine Finset.eq_univ_iff_forall.mpr fun j => ?_
  rw [Finset.mem_union, mem_coreSet, mem_coreSet]
  rcases Nat.mod_two_eq_zero_or_one ((j 0).val / 128) with h | h
  · exact .inl h
  · exact .inr h

/-- The sums are the two SparseCores' blocks. -/
theorem oPts_cores (d : Dev nD) (f : Buf (Elt F) (oLoc d)) :
    (oLoc d ↦{fullShare} f : sProp 𝕄) = iprop((bigSep Finset.univ fun s : Fin 16 => oTile d 0 s f) ∗ bigSep Finset.univ fun s : Fin 16 => oTile d 1 s f) := by
  rw [← oPts_core, ← oPts_core]
  have h : (oLoc d ↦[coreSet 0 ∪ coreSet 1]{fullShare} f : sProp 𝕄) ⊣⊢ _ := pointsTo_union (ℓ := oLoc d) (q := fullShare) (f := f) cores_disjoint
  rw [cores_cover] at h
  exact BI.equiv_iff.mp ⟨h.1, h.2⟩

end Cert.Proof

end
-- ==== Proof.Region.lean ====
/-
  The second kernel, on the TensorCore: one point, the whole array of tile sums staged in, the whole result staged out.
  Its region is entered holding both arrays and left holding the sums and the result at `k1_pay1` of them.
-/
module

public import proofs.«01_k».proof.Proof.Base
public import proofs.«01_k».proof.Proof.Gen.KernelIdeal.Skeleton
public import Idealize.ShloMosaic.Lib.Exec
public import Idealize.ShloMosaic.Lib.Pipeline.FrameBody
public import Idealize.ShloMosaic.Lib.Pipeline.ValueKit.Basic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat Cfg Window BodyObligation)

/-! ## The body -/

/-- The kernel on whole staging buffers, the input's at `x0` and the output's at anything, leaves the output's at
    `k1_pay1 x0` and the input's as it was. -/
theorem finish_spec [∀ e, Nonempty (Elt F e)] (c : Dev nD) (E : Set ℕ) (arg0 : Memref sig .tc .vmem S32x128 .f32) (harg0 : arg0.IsWhole)
    (arg1 : Memref sig .tc .vmem S1x128 .f32) (harg1 : arg1.IsWhole) (x0 : Vec F S32x128 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ Q ⟨⟩))
      ⊢ wp frame (wpE (defs₀ (F := F)) 𝒱₀ c none) E (cc1__finish arg0 harg0 arg1 harg1) Q := by
  simp only [cc1__finish_eq_skeleton]; unfold cc1__finish_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (View.cover_of_tiled [⟨Rect.unit (s := S1x128) ![0, 0] S1x128.size inb_S1x128_S1x128_0_0, _⟩] S1x128.size (by rfl))).trans ?_
  refine (View.canon_cons_unit_lit _ _ _ (by decide)).trans ?_
  exact congrArg k1_pay1 (View.ld_unit_lit _ _ (by decide))

/-! ## The pipeline's proof data -/

variable (b : ℕ) (x1 : S32x128.Idx → F .f32) (x2 : S1x128.Idx → F .f32)

/-- What the pairs the TensorCore has recorded before the region satisfy: their level is at most `b`. -/
def below (c : Dev nD) : Set (SemLoc sig × HIx 1) := {p | (K (F := F)).lev (SparseCore.T c, p.1) p.2 ≤ b}

/-- The region's proof data: the arrays as entered, the input staged whole, the output `k1_pay1` of it. -/
def dat (c : Dev nD) : Dat τ (Elt F) (HIx 1) ℕ UU ℕ cfg1 c where
  A w := match w with
    | ⟨0, _⟩ => x1
    | ⟨1, _⟩ => x2
  after w _ := match w with
    | ⟨0, _⟩ => x1
    | ⟨1, _⟩ => k1_pay1 x1
  Φ _ := iprop(emp)
  q _ := fullShare
  owed _ := 0
  recorded _ := below (F := F) b c

/-- The call leaves the sums as they were. -/
theorem dat_after0 (c : Dev nD) (t : Fin cfg1.N) : (dat b x1 x2 c).after 0 t = x1 := by dsimp only [dat]
/-- The call leaves their sum in its result. -/
theorem dat_after1 (c : Dev nD) (t : Fin cfg1.N) : (dat b x1 x2 c).after 1 t = k1_pay1 x1 := by dsimp only [dat]

/-- The one block of the input's array is the array. -/
theorem before0 (c : Dev nD) (t : Fin cfg1.N) (d) : (dat b x1 x2 c).before 0 t d = x1 := by
  unfold Dat.before
  rw [if_pos (fetch1_0 t)]
  rw [fin_N1 t]
  unfold Dat.fetched Dat.blockOf
  dsimp only [dat]
  funext i
  exact congrArg x1 (funext fun a => Fin.ext (by
    match a with
    | ⟨0, _⟩ => exact (Nat.zero_add _).trans (Nat.one_mul _)
    | ⟨1, _⟩ => exact (Nat.zero_add _).trans (Nat.one_mul _)))

/-- On the TensorCore the body table holds the call's kernel. -/
theorem defs₀_row (t : Fin cfg1.N) : defs₀ (F := F) .tc cfg1.body (cfg1.bodyArgs t (cfg1.slots t)) = bodyAt1 t := by
  rfl

/-- What the kernel starts from. -/
def bodyPre (c : Dev nD) (t : Fin cfg1.N) : sProp 𝕄 :=
  iprop((dat b x1 x2 c).Φ t.castSucc ∗ (dat b x1 x2 c).owesAt none t.castSucc
    ∗ (∃ d, owns (c : Thread nD τ) (st1_0 t) fullShare ((dat b x1 x2 c).before 0 t d))
    ∗ (∃ d, owns (c : Thread nD τ) (st1_1 t) fullShare ((dat b x1 x2 c).before 1 t d)))

/-- What the kernel ends with. -/
def bodyPost (c : Dev nD) (t : Fin cfg1.N) : sProp 𝕄 :=
  iprop((dat b x1 x2 c).Φ t.succ ∗ (dat b x1 x2 c).owesAt none t.succ
    ∗ owns (c : Thread nD τ) (st1_0 t) fullShare ((dat b x1 x2 c).after 0 t)
    ∗ owns (c : Thread nD τ) (st1_1 t) fullShare ((dat b x1 x2 c).after 1 t))

/-- The body at the region's point: `finish_spec` on the staged arrays. -/
theorem sound_body [∀ e, Nonempty (Elt F e)] (c : Dev nD) (t : Fin cfg1.N) :
    bodyPre b x1 x2 c t ⊢ wp frame (wpE (defs₀ (F := F)) 𝒱₀ c none) Set.univ (bodyAt1 t) (fun _ => bodyPost b x1 x2 c t) := by
  unfold bodyPre bodyPost bodyAt1
  simp only [before0]
  rw [show (dat b x1 x2 c).Φ t.succ = (dat b x1 x2 c).Φ t.castSucc from rfl,
    show (dat b x1 x2 c).owesAt none t.succ = (dat b x1 x2 c).owesAt none t.castSucc from rfl,
    dat_after0, dat_after1]
  iintro ⟨HΦ, Ho, ⟨%d0, H0⟩, ⟨%d1, H1⟩⟩
  iapply (finish_spec c Set.univ _ _ _ _ x1 _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The kernel's run, as the pipeline asks for it. -/
theorem body_obligation [∀ e, Nonempty (Elt F e)] (c : Dev nD) :
    BodyObligation (dat b x1 x2 c) (defs₀ (F := F)) 𝒱₀ none Set.univ := fun t => by
  rw [bigSep_W1, bigSep_W1, defs₀_row]
  exact triple_restated (sound_body b x1 x2 c t) rfl .rfl fun _ => .rfl

/-! ## The arrays at the region's two ends -/

/-- Where the rows of sums lie. -/
abbrev v1Loc (d : Dev nD) : Loc nD τ sig := (SparseCore.T d).loc main_v1
/-- Where the call's result lies. -/
abbrev v2Loc (d : Dev nD) : Loc nD τ sig := (SparseCore.T d).loc main_v2

/-- The call has no prefetched table. -/
abbrev adm : (p : Fin 1) → (pcfgs (F := F) p).Adm := fun p => (cfgs p).toPCfg_adm
/-- The contents, for the only call. -/
def pdats : (p : Fin 1) → (c : Dev nD) → Dat τ (Elt F) (HIx 1) ℕ UU ℕ (Pipeline.pin (pcfgs (F := F)) adm p) c
  | 0 => dat b x1 x2

/-- The call's arrays are the rows of sums and its result. -/
theorem arrays_pts (c : Dev nD) (G) :
    ((pdats b x1 x2 0 c).arrays G : sProp 𝕄) = iprop((v1Loc c ↦{fullShare} G 0) ∗ (v2Loc c ↦{fullShare} G 1)) := by
  rw [Pipeline.arrays_eq (Pipeline.pin (pcfgs (F := F)) adm) (pdats b x1 x2) 0 c arr_whole1 (fun w => by unfold Dat.share; split <;> rfl)]
  exact bigSep_W1 _

/-- At the call's end the rows of sums are as they were. -/
theorem exit0 (c : Dev nD) (n : ℕ) : (pdats b x1 x2 0 c).arrAt 0 n = x1 :=
  (dat b x1 x2 c).arrAt_in 0 rfl _

/-- At the call's end its result is their sum. -/
theorem exit1 (c : Dev nD) : (pdats b x1 x2 0 c).arrAt 1 (Pipeline.pin (pcfgs (F := F)) adm 0).N = k1_pay1 x1 := by
  show (dat b x1 x2 c).arrAt 1 cfg1.N = _
  rw [show cfg1.N = (t1_0 : Fin cfg1.N).val + 1 from by decide, (dat b x1 x2 c).arrAt_succ 1 t1_0, if_pos (flush1_1 _)]
  funext j
  have he : ((cfg1.win 1).blk t1_0).view.emb j = j := funext fun a => Fin.ext (by
    match a with
    | ⟨0, _⟩ => exact (Nat.zero_add _).trans (Nat.one_mul _)
    | ⟨1, _⟩ => exact (Nat.zero_add _).trans (Nat.one_mul _))
  exact (congrArg _ he.symm).trans (View.write_emb_of_mem (v := ((cfg1.win 1).blk t1_0).view) _ _ (Finset.mem_univ j))

/-! ## The region -/

/-- What the TensorCore holds of its dues across the region: nothing owed, its recorded pairs' levels at most `b`. -/
def dues (c : Dev nD) : sProp 𝕄 :=
  iprop(∃ W, ⌜(K (F := F)).WBelow (SparseCore.T c) W b⌝ ∗ owes (SparseCore.T c) (0 : CellTallies nD τ sig (HIx 1)) W)

/-- What the TensorCore owes, on entering the call. -/
theorem dues_enter (c : Dev nD) (t) : dues (F := F) b c ⊢ ((dat b x1 x2 c).owesAt none t : sProp 𝕄) := by
  unfold dues Dat.owesAt Pipeline.owesWithin Dat.bound
  iintro ⟨%W, %hW, HO⟩; iexists W; isplitr
  · ipureintro; exact fun p hp => Or.inl (hW p hp)
  iexact HO

/-- What the TensorCore owes, on leaving it. -/
theorem dues_leave (c : Dev nD) (t) : ((dat b x1 x2 c).owesAt none t : sProp 𝕄) ⊢ dues (F := F) b c := by
  unfold dues Dat.owesAt Pipeline.owesWithin Dat.bound
  iintro ⟨%W, %hW, HO⟩; iexists W; isplitr
  · ipureintro
    intro p hp
    rcases hW hp with h | ⟨w, s, rfl⟩
    · exact h
    · exact Nat.zero_le _
  iexact HO

/-- The TensorCore kernel's region: the tile sums at `x1` and the result at anything in, the result at `k1_pay1 x1` out. -/
def region [∀ e, Nonempty (Elt F e)] :
    Pipeline.RegionSeg (pcfgs (F := F)) adm (pdats b x1 x2) none defs₀ 𝒱₀ (K (F := F)).L (K (F := F)).lev 0 where
  win := launch1.win.to₀
  block_pos := block_pos1
  stage_whole := stage_whole1
  K := PEmpty
  osem k := k.elim
  ho := Pipeline.OwnSemFacts.none _
  hbody c := (body_obligation b x1 x2 c).loose
  hwaits := Pipeline.hwaits_of_owed_zero _ _ _ _ _ _ 0 fun _ _ => rfl
  pre c := iprop((v1Loc c ↦{fullShare} x1) ∗ (v2Loc c ↦{fullShare} x2) ∗ dues b c)
  post c := iprop((v1Loc c ↦{fullShare} x1) ∗ (v2Loc c ↦{fullShare} k1_pay1 x1) ∗ dues b c)
  X _ := iprop(emp)
  Y _ := iprop(emp)
  Z _ := iprop(emp)
  hentry c := by
    rw [Pipeline.ownSems0_none, arrays_pts, Pipeline.prefHeld_of_none _ rfl]
    iintro ⟨⟨H1, H2, HO⟩, -, -⟩
    imodintro
    isplitl [H1 H2]
    · isplitl [H1]; · iexact H1
      iexact H2
    isplitr; · iempintro
    isplitl [HO]; · iapply (dues_enter b x1 x2 c 0); iexact HO
    isplitr <;> iempintro
  hin c := by
    rw [show (pdats b x1 x2 0 c).Φ 0 = iprop(emp) from rfl]
    iintro -; iempintro
  hout c := by
    rw [show (pdats b x1 x2 0 c).Φ (Fin.last _) = iprop(emp) from rfl, Pipeline.ownSems0_none, scopedRest1_eq]
    iintro -
    isplitr; · iempintro
    isplitr <;> iempintro
  hexit c := by
    rw [arrays_pts, exit0, exit1]
    iintro ⟨⟨H1, H2⟩, HO, -, -⟩
    imodintro
    isplitl [H1]; · iexact H1
    isplitl [H2]; · iexact H2
    iapply (dues_leave b x1 x2 c _); iexact HO

end Cert.Proof

end
-- ==== Proof.Main.lean ====
/-
  @main on the TensorCore: the SparseCore call, the tiles' sums reshaped to one row a tile, the TensorCore kernel over
  them, its one row reshaped to the result; and the run of the whole program.
-/
module

public import proofs.«01_k».proof.Proof.Launch
public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

/-! ## The result's value -/

/-- The tiles' sums, one row a tile. -/
def sums (x : S320000x128.Idx → F .f32) : S32x128.Idx → F .f32 := shapeCast S32x128 (partials x) shapeCasts_S4096_S32x128

/-- The kernel's result, from the argument. -/
def result (x : S320000x128.Idx → F .f32) : S128.Idx → F .f32 := shapeCast S128 (k1_pay1 (sums x)) shapeCasts_S1x128_S128

/-! ## The two reshapes -/

/-- The tiles' sums, as the host operations name them. -/
abbrev o' : DevRef τ sig := Proc.devRef .tc (main_v0 : Ref sig .tc)
/-- The rows of sums, likewise. -/
abbrev v1' : DevRef τ sig := Proc.devRef .tc (main_v1 : Ref sig .tc)
/-- The TensorCore call's row, likewise. -/
abbrev v2' : DevRef τ sig := Proc.devRef .tc (main_v2 : Ref sig .tc)
/-- The result, likewise. -/
abbrev v3' : DevRef τ sig := Proc.devRef .tc (main_v3 : Ref sig .tc)
/-- Where the result lies. -/
abbrev v3Loc (d : Dev nD) : Loc nD τ sig := (SparseCore.T d).loc main_v3
/-- The reshape of the sums to one row a tile. -/
abbrev opRows : HloOp τ sig (Elt F) := StableHlo.reshape main_v0 main_v1 (rfl : (.f32 : EltTy) = .f32) shapeCasts_S4096_S32x128
/-- The reshape of the row to the result. -/
abbrev opFlat : HloOp τ sig (Elt F) := StableHlo.reshape main_v2 main_v3 (rfl : (.f32 : EltTy) = .f32) shapeCasts_S1x128_S128

/-- A whole buffer pair held is its two points-tos. -/
theorem held_pair (d : Dev nD) {a b : DevRef τ sig} (h : a ≠ b) (W : Valuation τ sig (Elt F)) :
    (held (SparseCore.T d) {a, b} W : sProp 𝕄) = iprop(((d, a) ↦{fullShare} W a) ∗ ((d, b) ↦{fullShare} W b)) := by
  unfold held
  rw [SparseCore.bigSep_insert' (by rw [Finset.mem_singleton]; exact h), bigSep_singleton]

include m in
/-- The first reshape: the sums from one run of elements to rows. -/
theorem wp_rows (d : Dev nD) (f : Buf (Elt F) (oLoc d)) (g : Buf (Elt F) (v1Loc d)) (Q : PUnit → sProp 𝕄) :
    iprop(boundary (SparseCore.T d) ∗ (oLoc d ↦{fullShare} f) ∗ (v1Loc d ↦{fullShare} g)
        ∗ ((boundary (SparseCore.T d) ∗ (oLoc d ↦{fullShare} f)
            ∗ (v1Loc d ↦{fullShare} (shapeCast S32x128 f shapeCasts_S4096_S32x128 : S32x128.Idx → F .f32))) -∗ Q ⟨⟩))
      ⊢ wp frame (wpE ((K (F := F)).defs (D (F := F))) 𝒱 (SparseCore.T d) none) Set.univ (hlo rfl opRows fun _ => .ret ⟨⟩) Q := by
  have hv : (Function.update (Function.update (fun b => m (d, b)) v1' g) o' f : Valuation τ sig (Elt F)) v1' = g :=
    (Function.update_of_ne (show v1' ≠ o' by decide) _ _).trans (Function.update_self _ _ _)
  have ho : (Function.update (Function.update (fun b => m (d, b)) v1' g) o' f : Valuation τ sig (Elt F)) o' = f := Function.update_self _ _ _
  generalize (Function.update (Function.update (fun b => m (d, b)) v1' g) o' f : Valuation τ sig (Elt F)) = V at hv ho
  have hres : (held (SparseCore.T d) {o', v1'} ((opRows (F := F)).result V) : sProp 𝕄)
      = iprop((oLoc d ↦{fullShare} f) ∗ (v1Loc d ↦{fullShare} (shapeCast S32x128 f shapeCasts_S4096_S32x128 : S32x128.Idx → F .f32))) := by
    rw [held_pair d (show o' ≠ v1' by decide), (opRows (F := F)).result_of_not_mem V (b := o') (show o' ∉ ({v1'} : Finset (DevRef τ sig)) by decide),
      show (opRows (F := F)).result V v1' = (shapeCast S32x128 (V o') shapeCasts_S4096_S32x128 : S32x128.Idx → F .f32) from by
        rw [(opRows (F := F)).result_of_mem V (b := v1') (show v1' ∈ ({v1'} : Finset (DevRef τ sig)) by decide)]; rfl, ho]
  iintro ⟨Hb, Ho, H1, Hk⟩
  iapply (wp_hlo_within 𝒱 (SparseCore.T d) none Set.univ (op := opRows) (S := {o', v1'}) (Finset.Subset.refl _) (V := V)) $$ [Hb Ho H1]
  · isplitl [Hb]; · iexact Hb
    rw [held_pair d (show o' ≠ v1' by decide), hv, ho]
    isplitl [Ho]; · iexact Ho
    iexact H1
  iintro ⟨Hb, Hheld⟩
  ihave Hh := (Entails.of_eq hres) $$ Hheld
  icases Hh with ⟨Ho, H1⟩
  rw [wp_ret]; imodintro
  iapply Hk
  isplitl [Hb]; · iexact Hb
  isplitl [Ho]; · iexact Ho
  iexact H1

include m in
/-- The second reshape: the one row of totals to the result. -/
theorem wp_flat (d : Dev nD) (f : Buf (Elt F) (v2Loc d)) (g : Buf (Elt F) (v3Loc d)) (Q : PUnit → sProp 𝕄) :
    iprop(boundary (SparseCore.T d) ∗ (v2Loc d ↦{fullShare} f) ∗ (v3Loc d ↦{fullShare} g)
        ∗ ((boundary (SparseCore.T d) ∗ (v3Loc d ↦{fullShare} (shapeCast S128 f shapeCasts_S1x128_S128 : S128.Idx → F .f32))) -∗ Q ⟨⟩))
      ⊢ wp frame (wpE ((K (F := F)).defs (D (F := F))) 𝒱 (SparseCore.T d) none) Set.univ (hlo rfl opFlat fun _ => .ret ⟨⟩) Q := by
  have hv : (Function.update (Function.update (fun b => m (d, b)) v3' g) v2' f : Valuation τ sig (Elt F)) v3' = g :=
    (Function.update_of_ne (show v3' ≠ v2' by decide) _ _).trans (Function.update_self _ _ _)
  have ho : (Function.update (Function.update (fun b => m (d, b)) v3' g) v2' f : Valuation τ sig (Elt F)) v2' = f := Function.update_self _ _ _
  generalize (Function.update (Function.update (fun b => m (d, b)) v3' g) v2' f : Valuation τ sig (Elt F)) = V at hv ho
  have hres : (held (SparseCore.T d) {v2', v3'} ((opFlat (F := F)).result V) : sProp 𝕄)
      = iprop((v2Loc d ↦{fullShare} f) ∗ (v3Loc d ↦{fullShare} (shapeCast S128 f shapeCasts_S1x128_S128 : S128.Idx → F .f32))) := by
    rw [held_pair d (show v2' ≠ v3' by decide), (opFlat (F := F)).result_of_not_mem V (b := v2') (show v2' ∉ ({v3'} : Finset (DevRef τ sig)) by decide),
      show (opFlat (F := F)).result V v3' = (shapeCast S128 (V v2') shapeCasts_S1x128_S128 : S128.Idx → F .f32) from by
        rw [(opFlat (F := F)).result_of_mem V (b := v3') (show v3' ∈ ({v3'} : Finset (DevRef τ sig)) by decide)]; rfl, ho]
  iintro ⟨Hb, Ho, H1, Hk⟩
  iapply (wp_hlo_within 𝒱 (SparseCore.T d) none Set.univ (op := opFlat) (S := {v2', v3'}) (Finset.Subset.refl _) (V := V)) $$ [Hb Ho H1]
  · isplitl [Hb]; · iexact Hb
    rw [held_pair d (show v2' ≠ v3' by decide), hv, ho]
    isplitl [Ho]; · iexact Ho
    iexact H1
  iintro ⟨Hb, Hheld⟩
  ihave Hh := (Entails.of_eq hres) $$ Hheld
  icases Hh with ⟨-, H1⟩
  rw [wp_ret]; imodintro
  iapply Hk
  isplitl [Hb]; · iexact Hb
  iexact H1

/-! ## The TensorCore kernel's call -/

/-- What the launch deals the TensorCore pipeline: its cells' rounds and its transfers' tokens. -/
def ghost (d : Dev nD) : sProp 𝕄 :=
  iprop(Pipeline.cellsGhost (Pipeline.pin (pcfgs (F := F)) adm) EP 0 d ∗ Pipeline.toksInit (Pipeline.pin (pcfgs (F := F)) adm) EP 0 d)

/-- The pipeline's semaphore cells are distinct. -/
theorem pins_inj : Function.Injective (Pipeline.cellOf (nD := nD) (τ := τ) (Pipeline.pin (pcfgs (F := F)) adm)) := cellOf_inj

/-- The TensorCore kernel's region under the pipelines' own body table, from what the launch dealt it. -/
theorem wp_region [∀ e, Nonempty (Elt F e)] (b : ℕ) (d : Dev nD) (x1 : S32x128.Idx → F .f32) (x2 : S1x128.Idx → F .f32) (Q : PUnit → sProp 𝕄) :
    iprop(boundary (SparseCore.T d) ∗ (v1Loc d ↦{fullShare} x1) ∗ (v2Loc d ↦{fullShare} x2) ∗ dues b d ∗ levAts (K (F := F)).L (K (F := F)).lev ∗ ghost d
        ∗ ((boundary (SparseCore.T d) ∗ (v2Loc d ↦{fullShare} k1_pay1 x1) ∗ dues b d) -∗ Q ⟨⟩))
      ⊢ wp frame (wpE (D (F := F)) 𝒱 (SparseCore.T d) none) Set.univ (.op (.customCall (Pipeline.entry 0) ()) fun _ => .ret ⟨⟩) Q := by
  have h := Pipeline.RegionSeg.wp (pcfgs (F := F)) adm (pdats b x1 x2) none pins_inj EP defs₀ 𝒱₀ (K (F := F)).L (K (F := F)).lev
    (region b x1 x2) d none (fun u hu => nomatch hu) (fun _ => .ret ⟨⟩) Q
  rw [show (region b x1 x2).pre d = iprop((v1Loc d ↦{fullShare} x1) ∗ (v2Loc d ↦{fullShare} x2) ∗ dues b d) from rfl,
    show (region b x1 x2).post d = iprop((v1Loc d ↦{fullShare} x1) ∗ (v2Loc d ↦{fullShare} k1_pay1 x1) ∗ dues b d) from rfl] at h
  refine BIBase.Entails.trans ?_ h
  unfold ghost
  iintro ⟨Hb, H1, H2, HO, HL, ⟨Hg, Ht⟩, Hk⟩
  isplitl [Hk]
  · iintro ⟨Hb, -, H2, HO⟩
    rw [wp_ret]; imodintro
    iapply Hk
    isplitl [Hb]; · iexact Hb
    isplitl [H2]; · iexact H2
    iexact HO
  isplitl [Hb]; · iexact Hb
  isplitl [H1 H2 HO]
  · isplitl [H1]; · iexact H1
    isplitl [H2]; · iexact H2
    iexact HO
  isplitl [HL]; · iexact HL
  isplitl [Hg]; · iexact Hg
  iexact Ht

/-- The call of the TensorCore kernel as @main makes it. -/
theorem wp_finish [∀ e, Nonempty (Elt F e)] (b : ℕ) (d : Dev nD) (x1 : S32x128.Idx → F .f32) (x2 : S1x128.Idx → F .f32) (Q : PUnit → sProp 𝕄) :
    iprop(boundary (SparseCore.T d) ∗ (v1Loc d ↦{fullShare} x1) ∗ (v2Loc d ↦{fullShare} x2) ∗ dues b d ∗ levAts (K (F := F)).L (K (F := F)).lev ∗ ghost d
        ∗ ((boundary (SparseCore.T d) ∗ (v2Loc d ↦{fullShare} k1_pay1 x1) ∗ dues b d) -∗ Q ⟨⟩))
      ⊢ wp frame (wpE ((K (F := F)).defs (D (F := F))) 𝒱 (SparseCore.T d) none) Set.univ
          (Prog.lift (.customCall (SparseCore.inner (Pipeline.entry 0)) ())) Q := by
  have heq : (Prog.lift (.customCall (SparseCore.inner (Pipeline.entry 0)) ()) : Prog (TpuEff nD τ sig (Elt F) (SparseCore.Sig (ΛP (F := F)) 1) .tc) PUnit)
      = SparseCore.liftProg (Q := 1) (.op (.customCall (Pipeline.entry 0) ()) fun _ => .ret ⟨⟩ : Prog (TpuEff nD τ sig (Elt F) (ΛP (F := F)) .tc) PUnit) := rfl
  rw [heq]
  exact (wp_region b d x1 x2 Q).trans ((K (F := F)).wp_liftProg (D (F := F)) 𝒱 (SparseCore.T d) Set.univ none _ Q)

/-! ## The launch element -/

/-- The ghost state at the launch. -/
def u₀ : UU := (initOf (K (F := F)).hsCells (K (F := F)).hsToks,
  (initOf (Pipeline.cells (Pipeline.pin (pcfgs (F := F)) adm) pins_inj) (Pipeline.launchToks (Pipeline.pin (pcfgs (F := F)) adm) pins_inj), 1))

/-- Nothing, many times, is nothing. -/
theorem bigSep_emp' {I : Type} (s : Finset I) : (bigSep s fun _ => iprop(emp)) = (iprop(emp) : sProp 𝕄) := bigSep_emp_const s

/-- The launch's ghost state gives the handshakes', the TensorCore call's and the counters' parts. -/
theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) EP pins_inj) $$ HP with HP
  icases HP with ⟨Hg, Ht⟩
  imodintro
  isplitl [HH]; · iexact HH
  isplitl [Hg Ht]
  · unfold ghost
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

/-- The TensorCore's unscoped buffers are the program's five arrays. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)
      ∗ (v1Loc d ↦{fullShare} W main_v1) ∗ (v2Loc d ↦{fullShare} W main_v2) ∗ v3Loc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

/-- The two SparseCores' parts of the argument and of sums at `f`, one by one. -/
theorem cores_pair (d : Dev nD) (f : Buf (Elt F) (oLoc d)) :
    (bigSep Finset.univ fun c : Fin 2 => iprop(xCore m d c ∗ bigSep Finset.univ fun s : Fin 16 => oTile d c s f))
      = iprop((xCore m d 0 ∗ bigSep Finset.univ fun s : Fin 16 => oTile d 0 s f) ∗ (xCore m d 1 ∗ bigSep Finset.univ fun s : Fin 16 => oTile d 1 s f)) :=
  BI.bigSep_fin_two _

/-- What the call takes for the two SparseCores: the argument and the sums, whole. -/
theorem st0_eq (d : Dev nD) : ((xLoc d ↦{fullShare} xIn m d) ∗ (oLoc d ↦{fullShare} m (oLoc d)) : sProp 𝕄)
    ⊢ bigSep Finset.univ fun c : Fin ((K (F := F)).nCore 0) => (P m).st 0 d c := by
  rw [xPts_cores, oPts_cores]
  refine BIBase.Entails.trans ?_ (Entails.of_eq (cores_pair m d (m (oLoc d))).symm)
  iintro ⟨⟨Hx0, Hx1⟩, Ho0, Ho1⟩
  isplitl [Hx0 Ho0]
  · isplitl [Hx0]; · iexact Hx0
    iexact Ho0
  isplitl [Hx1]; · iexact Hx1
  iexact Ho1

/-- What it hands back: the argument as it was, the sums at each tile's. -/
theorem dn0_eq (d : Dev nD) : (bigSep Finset.univ fun c : Fin ((K (F := F)).nCore 0) => (P m).dn 0 d c)
    ⊢ ((xLoc d ↦{fullShare} xIn m d) ∗ (oLoc d ↦{fullShare} oOut m d) : sProp 𝕄) := by
  rw [xPts_cores, oPts_cores]
  refine BIBase.Entails.trans (Entails.of_eq (cores_pair m d (oOut m d))) ?_
  iintro ⟨⟨Hx0, Ho0⟩, Hx1, Ho1⟩
  isplitl [Hx0 Hx1]
  · isplitl [Hx0]; · iexact Hx0
    iexact Hx1
  isplitl [Ho0]; · iexact Ho0
  iexact Ho1

/-- The state after the one call is the TensorCore's dues, nothing owed, and the rest; and back. -/
theorem tcSt_dues (d : Dev nD) : ∃ b : ℕ, ∃ R : sProp 𝕄, (K (F := F)).tcSt EH d 1 = iprop(dues b d ∗ R) := by
  unfold SparseCore.Cfg.tcSt
  rw [(K (F := F)).Otc_end d (le_refl 1)]
  exact ⟨_, _, rfl⟩

/-- What @main leaves the claim: the argument at its launch contents, the result at its value. -/
abbrev FIN (d : Dev nD) : sProp 𝕄 := iprop((xLoc d ↦{fullShare} xIn m d) ∗ v3Loc d ↦{fullShare} result (xIn m d))

/-- The host program's run, from its arrays to the result. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b, R, hR⟩ := tcSt_dues (F := F) d
  unfold SparseCore.Cfg.tcRes SparseCore.Cfg.tcEnd
  rw [unscopedBufs_eq, hR]
  simp only [main, wp_bind, wp_pure]
  iintro ⟨#Hctx, Hst, ⟨Hb, ⟨Hx, Ho, H1, H2, H3⟩, Hts, -⟩, Hg⟩
  iapply ((K (F := F)).wp_run (D (F := F)) 𝒱 (EH := EH) (P := P m) κ d 0) $$ [Hst Hx Ho H1 H2 H3 Hb Hts Hg]
  isplitr; · iexact Hctx
  isplitl [Hst]; · iexact Hst
  isplitl [Hx Ho]
  · iapply (st0_eq m d)
    isplitl [Hx]; · iexact Hx
    iexact Ho
  iintro ⟨Hst, Hdn⟩
  ihave Hst' := (show (K (F := F)).tcSt EH d ((0 : Fin 1).val + 1) ⊢ iprop(dues b d ∗ R) from Entails.of_eq hR) $$ Hst
  icases Hst' with ⟨HO, HR⟩
  ihave Hdn' := (dn0_eq m d) $$ Hdn
  icases Hdn' with ⟨Hx, Ho⟩
  iapply (wp_rows m d _ _ _)
  isplitl [Hb]; · iexact Hb
  isplitl [Ho]; · iexact Ho
  isplitl [H1]; · iexact H1
  iintro ⟨Hb, -, H1⟩
  iapply (wp_finish b d _ _ _)
  isplitl [Hb]; · iexact Hb
  isplitl [H1]; · iexact H1
  isplitl [H2]; · iexact H2
  isplitl [HO]; · iexact HO
  isplitr; · iapply (SparseCore.Cfg.ctx_levAts κ); iexact Hctx
  isplitl [Hg]; · iexact Hg
  iintro ⟨Hb, H2, HO⟩
  iapply (wp_flat m d _ _ _)
  isplitl [Hb]; · iexact Hb
  isplitl [H2]; · iexact H2
  isplitl [H3]; · iexact H3
  iintro ⟨Hb, H3⟩
  imodintro
  isplitl [HO HR]
  · isplitl [HO]; · iexact HO
    iexact HR
  isplitl [Hx H3]
  · isplitl [Hx]; · iexact Hx
    iexact H3
  isplitl [Hb] <;> iassumption

/-! ## The program's run -/

/-- What the end state shows of one device. -/
def fq (d : Dev nD) (s' : Phys nD τ sig (Elt F)) : Prop :=
  s'.mem.mem (v3Loc d) = result (xIn m d) ∧ s'.mem.mem (xLoc d) = m (xLoc d)

/-- The host program's last assertion shows it. -/
theorem hfin (d : Dev nD) (s' : Phys nD τ sig (Elt F)) : iprop(FIN m d ∗ SI s') ⊢ (⌜fq m d s'⌝ : sProp 𝕄) := by
  iintro ⟨⟨Hx, H3⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := v3Loc d) (I := Finset.univ) (q := fullShare) (f := result (xIn m d))) $$ [HSI H3]
  · isplitl [HSI] <;> iassumption
  icases H with %h2
  ipureintro; exact ⟨funext fun i => h2 i (Finset.mem_univ i), funext fun i => h1 i (Finset.mem_univ i)⟩

/-- The end state: on every device the result, the messages unchanged, and every semaphore counter zero. -/
def QC : PUnit × MemSt nD τ sig (Elt F) → Prop := fun r =>
  (∀ c : Dev nD, r.2.mem (v3Loc c) = result (xIn m c) ∧ r.2.mem (xLoc c) = m (xLoc c)) ∧ r.2.sem = fun _ => 0

/-- The whole program's run, over any float values: it ends, the result at its value, the argument as it was, every
    counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof

end
-- ==== Proof.Sum.lean ====
/-
  The mathematics of the equation at the ideal instance: the tiles' column sums, added over the tiles, are the column
  sums of the whole array, which is what the reference's reduction computes.
-/
module

public import proofs.«01_k».proof.Proof.Main
public import proofs.«01_k».proof.Proof.Gen.ReferenceIdeal.Run
public import Idealize.ShloMosaic.Lib.IdealHost
public import Idealize.ShloMosaic.Lib.Pointwise.Reduce

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

/-- The zero a column's sum starts from is the extended real 0. -/
theorem zeroF_ideal : (zeroF : Ideal .f32) = (0 : EReal) := Ideal.ofBits_zero_f32

/-- A tile's running column sum is the sum of the rows it has added. -/
theorem colAcc_ideal (x : S320000x128.Idx → Ideal .f32) (base n k : ℕ) :
    colAcc x base n k = ∑ i ∈ Finset.range n, (elt x (base + i) k : EReal) := by
  induction n with
  | zero => rw [Finset.sum_range_zero]; exact zeroF_ideal
  | succ n ih =>
    rw [Finset.sum_range_succ, ← ih]
    rfl

/-- Sums over consecutive blocks of `n` terms, added over `w` blocks, are the sum over all `n * w` terms. -/
theorem sum_blocks (f : ℕ → EReal) (n w : ℕ) :
    ∑ v ∈ Finset.range w, ∑ i ∈ Finset.range n, f (n * v + i) = ∑ r ∈ Finset.range (n * w), f r := by
  induction w with
  | zero => rfl
  | succ w ih => rw [Finset.sum_range_succ, ih, Nat.mul_succ, Finset.sum_range_add]

/-- Entry `(w, k)` of the tiles' sums is tile `w`'s sum of column `k`. -/
theorem sums_apply (x : S320000x128.Idx → Ideal .f32) (i : S32x128.Idx) :
    sums x i = colAcc x (10000 * (i 0).val) 10000 (i 1).val := by
  have h0 : (i 0).val < 32 := (i 0).isLt
  have h1 : (i 1).val < 128 := (i 1).isLt
  let j : S4096.Idx := fun a => match a with | 0 => ⟨(i 0).val * 128 + (i 1).val, by show _ < 4096; omega⟩
  unfold sums
  rw [shapeCast_apply (partials x) shapeCasts_S4096_S32x128 i j
    (by rw [Shape.rowMajor_val_one, Shape.rowMajor_val_two]; rfl)]
  show colAcc x (10000 * (((i 0).val * 128 + (i 1).val) / 128)) 10000 (((i 0).val * 128 + (i 1).val) % 128) = _
  rw [show ((i 0).val * 128 + (i 1).val) / 128 = (i 0).val by omega,
    show ((i 0).val * 128 + (i 1).val) % 128 = (i 1).val by omega]

/-- The TensorCore kernel's reduction of the tiles' sums, read at a column: the sum over the tiles. -/
theorem result_apply (x : S320000x128.Idx → Ideal .f32) (j : S128.Idx) :
    result x j = ∑ w : Fin 32, (colAcc x (10000 * w.val) 10000 (j 0).val : EReal) := by
  let j' : S1x128.Idx := fun a => match a with | 0 => ⟨0, by decide⟩ | 1 => ⟨(j 0).val, (j 0).isLt⟩
  unfold result
  rw [shapeCast_apply (k1_pay1 (sums x)) shapeCasts_S1x128_S128 j j'
    (by rw [Shape.rowMajor_val_one, Shape.rowMajor_val_two]; show 0 * 128 + (j 0).val = (j 0).val; omega)]
  unfold k1_pay1
  rw [shapeCast_apply _ shapeCasts_S128_S1x128 j' j
    (by rw [Shape.rowMajor_val_one, Shape.rowMajor_val_two]; show (j 0).val = 0 * 128 + (j 0).val; omega)]
  refine (Ideal.reduceAdd_r2_a0 reduces_S32x128_S128 _ j).trans (Finset.sum_congr rfl fun w _ => ?_)
  rw [shapeCast_apply (sums x) shapeCasts_S32x128_S32x128 _ _ rfl]
  exact sums_apply x _

/-- The reference's reduction, read at a column: the sum of the column's entries. -/
theorem reference_apply (x : S320000x128.Idx → Ideal .f32) (j : S128.Idx) :
    Host.reduceAdd x (constant Cert.ReferenceIdeal.S_ .f32 0x00000000#32) Cert.ReferenceIdeal.Gen.reducesTo_S320000x128_S128_d0
      Cert.ReferenceIdeal.Gen.h_S_ j = ∑ r ∈ Finset.range 320000, (elt x r (j 0).val : EReal) := by
  refine (Ideal.hostReduceAdd_r2_a0 Cert.ReferenceIdeal.Gen.reducesTo_S320000x128_S128_d0 x _ j).trans ?_
  rw [show (constant (F := Ideal) Cert.ReferenceIdeal.S_ .f32 0x00000000#32 (Shape.Idx.first Cert.ReferenceIdeal.Gen.h_S_) : EReal) = 0
    from Ideal.ofBits_zero_f32, zero_add, Finset.sum_range]
  exact Finset.sum_congr rfl fun r _ => elt_idx x _ rfl rfl

/-- The kernel's result is the reference's, as extended reals. -/
theorem result_eq (x : S320000x128.Idx → Ideal .f32) :
    result x = Host.reduceAdd x (constant Cert.ReferenceIdeal.S_ .f32 0x00000000#32)
      Cert.ReferenceIdeal.Gen.reducesTo_S320000x128_S128_d0 Cert.ReferenceIdeal.Gen.h_S_ := by
  funext j
  rw [result_apply, reference_apply, ← Finset.sum_range fun w => (colAcc x (10000 * w) 10000 (j 0).val : EReal)]
  simp only [colAcc_ideal]
  exact sum_blocks (fun r => elt x r (j 0).val) 10000 32

end Cert.Proof

end
-- ==== Proof.Same.lean ====
/-
  The program printed for the 32-bit floats and the one printed for the extended reals are the same text, so that
  the run of the second, proved at any floats, is the run of the first.
-/
module

public import proofs.«01_k».proof.Proof.Main
public import proofs.«01_k».proof.Proof.Gen.Kernel
public import proofs.«01_k».proof.Kernel

@[expose] public section

noncomputable section

namespace Cert.Proof

open Idealize.ShloMosaic Idealize.SL.Sem

variable {F : FTy → Type} [FloatOps F]

/-- One pair of slots of the tiles' loop. -/
theorem part1_eq : Cert.Kernel.k0_part1 (F := F) = Cert.KernelIdeal.k0_part1 (F := F) := rfl

/-- A tile's copies and its loop. -/
theorem part2_eq : Cert.Kernel.k0_part2 (F := F) = Cert.KernelIdeal.k0_part2 (F := F) := rfl

/-- The kernel each tile runs. -/
theorem body_eq : Cert.Kernel.cc0_body (F := F) = Cert.KernelIdeal.cc0_body (F := F) := rfl

/-- The TensorCore kernel. -/
theorem finish_eq : Cert.Kernel.cc1__finish (F := F) = Cert.KernelIdeal.cc1__finish (F := F) := rfl

/-- The table of the kernels' bodies. -/
theorem defs₀_eq : Cert.Kernel.defs₀ (F := F) = Cert.KernelIdeal.defs₀ (F := F) := by
  funext p ℓ a
  match p, ℓ, a with
  | .scVector _ _, 0, _ => rfl
  | .tc, 1, (_, _) => rfl
  | .tc, 0, _ => rfl
  | .scVector _ _, 1, _ => rfl
  | .scScalar _, 0, _ => rfl
  | .scScalar _, 1, _ => rfl

/-- The program's whole table of bodies. -/
theorem defs_eq : Cert.Kernel.defs (F := F) = Cert.KernelIdeal.defs (F := F) :=
  congrArg (fun d => Cert.KernelIdeal.sc.defs (Pipeline.defs Cert.KernelIdeal.pcfgs d)) defs₀_eq

/-- The program's threads. -/
theorem threads_eq : Cert.Kernel.threads (F := F) = Cert.KernelIdeal.threads (F := F) := rfl

end Cert.Proof

end
-- ==== Proof.lean ====
/-
  The certificate's claims, assembled: the kernel's frame at the 32-bit floats and at the extended reals, the
  reference's frame, that nothing was rewritten in between, and that kernel and reference compute the same column sums.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Sum
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel's frame at the 32-bit floats: it always ends, its argument as it was, every counter at zero. -/
theorem frame_kernel : Cert.quiescent_Kernel := fun m ρ _ => by
  have h := (θ_run Cert.KernelIdeal.defs _ _).mono (Q' := fun r => (∀ c : Dev Cert.KernelIdeal.nD,
      r.2.mem (xLoc c) = m (xLoc c)) ∧ r.2.sem = fun _ => 0)
    (fun _ h => ⟨fun c => (h.1 c).2, h.2⟩) (run_main (F := Bits) m ρ)
  exact (congrArg (fun D => θ_run D (Cert.KernelIdeal.threads (F := Bits)) ⟨m, fun _ => 0, ρ⟩ fun r =>
    (∀ c : Dev Cert.KernelIdeal.nD, r.2.mem (xLoc c) = m (xLoc c)) ∧ r.2.sem = fun _ => 0) (defs_eq (F := Bits))).mpr h

/-- The same frame at the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference's frame at the extended reals; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals the kernel and the reference end with the same column sums. -/
theorem algebraic : Cert.algebraic_KernelIdeal_ReferenceIdeal := by
  intro m ρ m' ρ' _ hagree
  refine ⟨fun c => result (F := Ideal) (xIn (F := Ideal) m c), ?_, (θ_run Cert.ReferenceIdeal.defs _ _).mono (fun _ h c => ⟨(h c).1.trans ?_, (h c).2⟩)
    (Cert.ReferenceIdeal.Value.run (F := Ideal) m' ρ')⟩
  · exact (θ_run Cert.KernelIdeal.defs _ _).mono (fun _ h c => h.1 c) (run_main (F := Ideal) m ρ)
  · rw [hagree c]
    exact (result_eq (xIn m c)).symm

/-- Every claim of the test, together. -/
theorem claim : Cert.Claim :=
  ⟨Cert.Kernel.Gen.facts, Cert.KernelIdeal.Gen.facts, Cert.ReferenceIdeal.Gen.facts, frame_kernel, frame_ideal,
    frame_reference, trivial, algebraic⟩

end Cert.Proof

end
